-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 2048, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = Layout.block ⟨3, ![2, 128, 512]⟩ ⟨3, ![2, 2048, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x512 : Shape := ⟨2, ![512, 512]⟩
abbrev S2x128x128x64 : Shape := ⟨4, ![2, 128, 128, 64]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x128x128x64 : S_.BroadcastsInDim S2x128x128x64 (![] : Fin 0 → Fin S2x128x128x64.rank)
  reducesTo_S2x128x128x64_S_d0_1_2_3 : S2x128x128x64.ReducesTo [0, 1, 2, 3] S_

variable [Facts]

def fn {F : FTy → Type} [FloatOps F] (main_arg0 : FVec F S2x128x512 .bf16) (main_arg1 : FVec F S512x512 .bf16) (main_arg2 : FVec F S2x128x128x64 .bf16) (main_arg3 : FVec F S2x128x128x64 .bf16) (main_arg4 : FVec F S512x512 .bf16) : IVec S_ 1 :=
  let main_v0 : FVec F S2x128x512 .f32 := (extf .f32 · bitsLt_bf16_f32) main_arg0
  let main_v1 : FVec F S512x512 .f32 := (extf .f32 · bitsLt_bf16_f32) main_arg1
  let main_v2 : FVec F S2x128x128x64 .f32 := (extf .f32 · bitsLt_bf16_f32) main_arg2
  let main_v3 : FVec F S2x128x512 .f32 := Host.absf main_v0
  let main_cst : FVec F S_ .f32 := constant S_ .f32 0x7F800000#32
  let main_v4 : FVec F S2x128x512 .f32 := broadcastInDim S2x128x512 ![] bcast_S_S2x128x512 main_cst
  let main_v5 : IVec S2x128x512 1 := cmpf .olt main_v3 main_v4
  let main_c : IVec S_ 1 := constantI S_ 1 1#1
  let main_v6 : IVec S_ 1 := (fun x v => Host.reduce IntOp.andi x v reducesTo_S2x128x512_S_d0_1_2 h_S_) main_v5 main_c
  let main_v7 : FVec F S512x512 .f32 := Host.absf main_v1
  let main_cst_0 : FVec F S_ .f32 := constant S_ .f32 0x7F800000#32
  let main_v8 : FVec F S512x512 .f32 := broadcastInDim S512x512 ![] bcast_S_S512x512 main_cst_0
  let main_v9 : IVec S512x512 1 := cmpf .olt main_v7 main_v8
  let main_c_1 : IVec S_ 1 := constantI S_ 1 1#1
  let main_v10 : IVec S_ 1 := (fun x v => Host.reduce IntOp.andi x v reducesTo_S512x512_S_d0_1 h_S_) main_v9 main_c_1
  let main_v11 : IVec S_ 1 := andi main_v6 main_v10
  let main_v12 : FVec F S2x128x128x64 .f32 := Host.absf main_v2
  let main_cst_2 : FVec F S_ .f32 := constant S_ .f32 0x7F800000#32
  let main_v13 : FVec F S2x128x128x64 .f32 := broadcastInDim S2x128x128x64 ![] bcast_S_S2x128x128x64 main_cst_2
  let main_v14 : IVec S2x128x128x64 1 := cmpf .olt main_v12 main_v13
  let main_c_3 : IVec S_ 1 := constantI S_ 1 1#1
  let main_v15 : IVec S_ 1 := (fun x v => Host.reduce IntOp.andi x v reducesTo_S2x128x128x64_S_d0_1_2_3 h_S_) main_v14 main_c_3
  let main_v16 : IVec S_ 1 := andi main_v11 main_v15
  main_v16
-- ==== Pre_finite_ReferenceIdeal.lean ====
abbrev S2x2048x512 : Shape := ⟨3, ![2, 2048, 512]⟩
abbrev S512x8192 : Shape := ⟨2, ![512, 8192]⟩
abbrev S2x128x128x64 : Shape := ⟨4, ![2, 128, 128, 64]⟩
abbrev S8192x512 : Shape := ⟨2, ![8192, 512]⟩
abbrev S_ : Shape := ⟨0, ![]⟩

class Facts : Prop where
  bitsLt_bf16_f32 : FTy.bits .bf16 < FTy.bits .f32
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S512x8192 : S_.BroadcastsInDim S512x8192 (![] : Fin 0 → Fin S512x8192.rank)
  reducesTo_S512x8192_S_d0_1 : S512x8192.ReducesTo [0, 1] S_
  bcast_S_S2x128x128x64 : S_.BroadcastsInDim S2x128x128x64 (![] : Fin 0 → Fin S2x128x128x64.rank)
  reducesTo_S2x128x128x64_S_d0_1_2_3 : S2x128x128x64.ReducesTo [0, 1, 2, 3] S_

variable [Facts]

def fn {F : FTy → Type} [FloatOps F] (main_arg0 : FVec F S2x2048x512 .bf16) (main_arg1 : FVec F S512x8192 .bf16) (main_arg2 : FVec F S2x128x128x64 .bf16) (main_arg3 : FVec F S2x128x128x64 .bf16) (main_arg4 : FVec F S8192x512 .bf16) : IVec S_ 1 :=
  let main_v0 : FVec F S2x2048x512 .f32 := (extf .f32 · bitsLt_bf16_f32) main_arg0
  let main_v1 : FVec F S512x8192 .f32 := (extf .f32 · bitsLt_bf16_f32) main_arg1
  let main_v2 : FVec F S2x128x128x64 .f32 := (extf .f32 · bitsLt_bf16_f32) main_arg2
  let main_v3 : FVec F S2x2048x512 .f32 := Host.absf main_v0
  let main_cst : FVec F S_ .f32 := constant S_ .f32 0x7F800000#32
  let main_v4 : FVec F S2x2048x512 .f32 := broadcastInDim S2x2048x512 ![] bcast_S_S2x2048x512 main_cst
  let main_v5 : IVec S2x2048x512 1 := cmpf .olt main_v3 main_v4
  let main_c : IVec S_ 1 := constantI S_ 1 1#1
  let main_v6 : IVec S_ 1 := (fun x v => Host.reduce IntOp.andi x v reducesTo_S2x2048x512_S_d0_1_2 h_S_) main_v5 main_c
  let main_v7 : FVec F S512x8192 .f32 := Host.absf main_v1
  let main_cst_0 : FVec F S_ .f32 := constant S_ .f32 0x7F800000#32
  let main_v8 : FVec F S512x8192 .f32 := broadcastInDim S512x8192 ![] bcast_S_S512x8192 main_cst_0
  let main_v9 : IVec S512x8192 1 := cmpf .olt main_v7 main_v8
  let main_c_1 : IVec S_ 1 := constantI S_ 1 1#1
  let main_v10 : IVec S_ 1 := (fun x v => Host.reduce IntOp.andi x v reducesTo_S512x8192_S_d0_1 h_S_) main_v9 main_c_1
  let main_v11 : IVec S_ 1 := andi main_v6 main_v10
  let main_v12 : FVec F S2x128x128x64 .f32 := Host.absf main_v2
  let main_cst_2 : FVec F S_ .f32 := constant S_ .f32 0x7F800000#32
  let main_v13 : FVec F S2x128x128x64 .f32 := broadcastInDim S2x128x128x64 ![] bcast_S_S2x128x128x64 main_cst_2
  let main_v14 : IVec S2x128x128x64 1 := cmpf .olt main_v12 main_v13
  let main_c_3 : IVec S_ 1 := constantI S_ 1 1#1
  let main_v15 : IVec S_ 1 := (fun x v => Host.reduce IntOp.andi x v reducesTo_S2x128x128x64_S_d0_1_2_3 h_S_) main_v14 main_c_3
  let main_v16 : IVec S_ 1 := andi main_v11 main_v15
  main_v16
-- ==== Kernel.lean ====
abbrev S2x128x512 : Shape := ⟨3, ![2, 128, 512]⟩
abbrev S512x512 : Shape := ⟨2, ![512, 512]⟩
abbrev S2x128x128x64 : Shape := ⟨4, ![2, 128, 128, 64]⟩
abbrev S16 : Shape := ⟨1, ![16]⟩
abbrev S_ : Shape := ⟨0, ![]⟩
abbrev S2x128x8x64 : Shape := ⟨4, ![2, 128, 8, 64]⟩
abbrev S2x8x128x64 : Shape := ⟨4, ![2, 8, 128, 64]⟩
abbrev S16x128x64 : Shape := ⟨3, ![16, 128, 64]⟩
abbrev S1 : Shape := ⟨1, ![1]⟩
abbrev S16x2x128x512 : Shape := ⟨4, ![16, 2, 128, 512]⟩
abbrev S16x2 : Shape := ⟨2, ![16, 2]⟩
abbrev S1x2x128x512 : Shape := ⟨4, ![1, 2, 128, 512]⟩
abbrev S1x1 : Shape := ⟨2, ![1, 1]⟩
abbrev S1x1x128x512 : Shape := ⟨4, ![1, 1, 128, 512]⟩
abbrev S128x512 : Shape := ⟨2, ![128, 512]⟩
abbrev S256x512 : Shape := ⟨2, ![256, 512]⟩
abbrev S16x128x128 : Shape := ⟨3, ![16, 128, 128]⟩
abbrev S16x128 : Shape := ⟨2, ![16, 128]⟩
abbrev S16x128x1 : Shape := ⟨3, ![16, 128, 1]⟩

abbrev nBuf : Space → Nat
  | .hbm => 59
  | .vmem => 8
  | .smem => 2
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S2x128x128x64, .bf16⟩
  | .hbm, ⟨3, _⟩ => ⟨S2x128x128x64, .bf16⟩
  | .hbm, ⟨4, _⟩ => ⟨S512x512, .bf16⟩
  | .hbm, ⟨5, _⟩ => ⟨S16, .i32⟩
  | .hbm, ⟨6, _⟩ => ⟨S16, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S2x128x8x64, .bf16⟩
  | .hbm, ⟨24, _⟩ => ⟨S2x8x128x64, .bf16⟩
  | .hbm, ⟨25, _⟩ => ⟨S16x128x64, .bf16⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S2x128x8x64, .bf16⟩
  | .hbm, ⟨37, _⟩ => ⟨S2x8x128x64, .bf16⟩
  | .hbm, ⟨38, _⟩ => ⟨S16x128x64, .bf16⟩
  | .hbm, ⟨39, _⟩ => ⟨S_, .bf16⟩
  | .hbm, ⟨40, _⟩ => ⟨S512x512, .bf16⟩
  | .hbm, ⟨41, _⟩ => ⟨S512x512, .bf16⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S2x128x512, .f32⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S16x128x64, .bf16⟩
  | .local _ .vmem, ⟨4, _⟩ => ⟨S16x128x64, .bf16⟩
  | .local _ .vmem, ⟨5, _⟩ => ⟨S2x128x512, .f32⟩
  | .local _ .vmem, ⟨6, _⟩ => ⟨S16x2x128x512, .bf16⟩
  | .local _ .vmem, ⟨7, _⟩ => ⟨S16x2x128x512, .bf16⟩
  | .local _ .smem, ⟨0, _⟩ => ⟨S1, .i32⟩
  | .local _ .smem, ⟨1, _⟩ => ⟨S1, .i32⟩
  | _, _ => ⟨S2x128x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 1 → Bool
  | ⟨0, _⟩ => false
  | _ => false

abbrev dmaSemScoped : Fin 136 → Bool
  | ⟨i, _⟩ => dmaSemScopedAt i

abbrev sig : RefSig :=
  (ofTc nBuf bufTy 1 136 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_3 : Ref sig .tc := ⟨.hbm, 13, rfl⟩
abbrev main_v5 : Ref sig .tc := ⟨.hbm, 14, rfl⟩
abbrev main_c_4 : Ref sig .tc := ⟨.hbm, 15, rfl⟩
abbrev main_v6 : Ref sig .tc := ⟨.hbm, 16, rfl⟩
abbrev main_c_5 : Ref sig .tc := ⟨.hbm, 17, rfl⟩
abbrev main_v7 : Ref sig .tc := ⟨.hbm, 18, rfl⟩
abbrev main_v8 : Ref sig .tc := ⟨.hbm, 19, rfl⟩
abbrev main_c_6 : Ref sig .tc := ⟨.hbm, 20, rfl⟩
abbrev main_c_7 : Ref sig .tc := ⟨.hbm, 21, rfl⟩
abbrev main_c_8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_c_10 : Ref sig .tc := ⟨.hbm, 28, rfl⟩
abbrev main_v13 : Ref sig .tc := ⟨.hbm, 29, rfl⟩
abbrev main_c_11 : Ref sig .tc := ⟨.hbm, 30, rfl⟩
abbrev main_v14 : Ref sig .tc := ⟨.hbm, 31, rfl⟩
abbrev main_v15 : Ref sig .tc := ⟨.hbm, 32, rfl⟩
abbrev main_c_12 : Ref sig .tc := ⟨.hbm, 33, rfl⟩
abbrev main_c_13 : Ref sig .tc := ⟨.hbm, 34, rfl⟩
abbrev main_c_14 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩
abbrev main_c_15 : Ref sig .tc := ⟨.hbm, 42, rfl⟩
abbrev main_v21 : Ref sig .tc := ⟨.hbm, 43, rfl⟩
abbrev main_c_16 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_17 : Ref sig .tc := ⟨.hbm, 50, rfl⟩
abbrev main_v27 : Ref sig .tc := ⟨.hbm, 51, rfl⟩
abbrev main_c_18 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg7_0 : Ref sig .tc := ⟨.vmem, 5, rfl⟩
abbrev cc0_scratch0 : Ref sig .tc := ⟨.vmem, 6, rfl⟩
abbrev cc0_scratch1 : Ref sig .tc := ⟨.vmem, 7, rfl⟩
abbrev cc0_stg5_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (v1 : BitVec 32) : Nat :=
  let c0_i32 : BitVec 32 := 0#32
  let c1_i32_1 : BitVec 32 := 1#32
  let v3 : BitVec 32 := Scalar.muli v1 c1_i32_1
  let v4 : BitVec 32 := Scalar.addi c0_i32 v3
  v4.toNat

def k0_dev2 (v0 : BitVec 32) : Nat :=
  let c0_i32_4 : BitVec 32 := 0#32
  let c1_i32_3 : BitVec 32 := 1#32
  let v5 : BitVec 32 := Scalar.muli v0 c1_i32_3
  let v6 : BitVec 32 := Scalar.addi c0_i32_4 v5
  v6.toNat

def k0_dev3 (v0 : BitVec 32) : Nat :=
  let c0_i32_21 : BitVec 32 := 0#32
  let c1_i32_20 : BitVec 32 := 1#32
  let v12 : BitVec 32 := Scalar.muli v0 c1_i32_20
  let v13 : BitVec 32 := Scalar.addi c0_i32_21 v12
  v13.toNat
def k0_dev4 (v1 : BitVec 32) : Nat :=
  let c0_i32_35 : BitVec 32 := 0#32
  let c1_i32_34 : BitVec 32 := 1#32
  let v22 : BitVec 32 := Scalar.muli v1 c1_i32_34
  let v23 : BitVec 32 := Scalar.addi c0_i32_35 v22
  v23.toNat
def k0_dev5 (v0 : BitVec 32) : Nat :=
  let c0_i32_124 : BitVec 32 := 0#32
  let c1_i32_123 : BitVec 32 := 1#32
  let v93 : BitVec 32 := Scalar.muli v0 c1_i32_123
  let v94 : BitVec 32 := Scalar.addi c0_i32_124 v93
  v94.toNat
def k0_dev6 (v1 : BitVec 32) : Nat :=
  let c0_i32_138 : BitVec 32 := 0#32
  let c1_i32_137 : BitVec 32 := 1#32
  let v103 : BitVec 32 := Scalar.muli v1 c1_i32_137
  let v104 : BitVec 32 := Scalar.addi c0_i32_138 v103
  v104.toNat
def k0_dev7 (v0 : BitVec 32) : Nat :=
  let c0_i32_175 : BitVec 32 := 0#32
  let c1_i32_174 : BitVec 32 := 1#32
  let v149 : BitVec 32 := Scalar.muli v0 c1_i32_174
  let v150 : BitVec 32 := Scalar.addi c0_i32_175 v149
  v150.toNat
def k0_dev8 (v1 : BitVec 32) : Nat :=
  let c0_i32_189 : BitVec 32 := 0#32
  let c1_i32_188 : BitVec 32 := 1#32
  let v159 : BitVec 32 := Scalar.muli v1 c1_i32_188
  let v160 : BitVec 32 := Scalar.addi c0_i32_189 v159
  v160.toNat
def k0_dev9 (v0 : BitVec 32) : Nat :=
  let c0_i32_256 : BitVec 32 := 0#32
  let c1_i32_255 : BitVec 32 := 1#32
  let v197 : BitVec 32 := Scalar.muli v0 c1_i32_255
  let v198 : BitVec 32 := Scalar.addi c0_i32_256 v197
  v198.toNat
def k0_dev10 (v1 : BitVec 32) : Nat :=
  let c0_i32_270 : BitVec 32 := 0#32
  let c1_i32_269 : BitVec 32 := 1#32
  let v207 : BitVec 32 := Scalar.muli v1 c1_i32_269
  let v208 : BitVec 32 := Scalar.addi c0_i32_270 v207
  v208.toNat
def k0_dev11 (v0 : BitVec 32) : Nat :=
  let c0_i32_365 : BitVec 32 := 0#32
  let c1_i32_364 : BitVec 32 := 1#32
  let v284 : BitVec 32 := Scalar.muli v0 c1_i32_364
  let v285 : BitVec 32 := Scalar.addi c0_i32_365 v284
  v285.toNat
def k0_dev12 (v1 : BitVec 32) : Nat :=
  let c0_i32_379 : BitVec 32 := 0#32
  let c1_i32_378 : BitVec 32 := 1#32
  let v294 : BitVec 32 := Scalar.muli v1 c1_i32_378
  let v295 : BitVec 32 := Scalar.addi c0_i32_379 v294
  v295.toNat
def k0_dev13 (v0 : BitVec 32) : Nat :=
  let c0_i32_446 : BitVec 32 := 0#32
  let c1_i32_445 : BitVec 32 := 1#32
  let v332 : BitVec 32 := Scalar.muli v0 c1_i32_445
  let v333 : BitVec 32 := Scalar.addi c0_i32_446 v332
  v333.toNat
def k0_dev14 (v1 : BitVec 32) : Nat :=
  let c0_i32_460 : BitVec 32 := 0#32
  let c1_i32_459 : BitVec 32 := 1#32
  let v342 : BitVec 32 := Scalar.muli v1 c1_i32_459
  let v343 : BitVec 32 := Scalar.addi c0_i32_460 v342
  v343.toNat
def k0_dev15 (v0 : BitVec 32) : Nat :=
  let c0_i32_555 : BitVec 32 := 0#32
  let c1_i32_554 : BitVec 32 := 1#32
  let v419 : BitVec 32 := Scalar.muli v0 c1_i32_554
  let v420 : BitVec 32 := Scalar.addi c0_i32_555 v419
  v420.toNat
def k0_dev16 (v1 : BitVec 32) : Nat :=
  let c0_i32_569 : BitVec 32 := 0#32
  let c1_i32_568 : BitVec 32 := 1#32
  let v429 : BitVec 32 := Scalar.muli v1 c1_i32_568
  let v430 : BitVec 32 := Scalar.addi c0_i32_569 v429
  v430.toNat
def k0_dev17 (v0 : BitVec 32) : Nat :=
  let c0_i32_636 : BitVec 32 := 0#32
  let c1_i32_635 : BitVec 32 := 1#32
  let v467 : BitVec 32 := Scalar.muli v0 c1_i32_635
  let v468 : BitVec 32 := Scalar.addi c0_i32_636 v467
  v468.toNat
def k0_dev18 (v1 : BitVec 32) : Nat :=
  let c0_i32_650 : BitVec 32 := 0#32
  let c1_i32_649 : BitVec 32 := 1#32
  let v477 : BitVec 32 := Scalar.muli v1 c1_i32_649
  let v478 : BitVec 32 := Scalar.addi c0_i32_650 v477
  v478.toNat
def k0_dev19 (v0 : BitVec 32) : Nat :=
  let c0_i32_745 : BitVec 32 := 0#32
  let c1_i32_744 : BitVec 32 := 1#32
  let v554 : BitVec 32 := Scalar.muli v0 c1_i32_744
  let v555 : BitVec 32 := Scalar.addi c0_i32_745 v554
  v555.toNat
def k0_dev20 (v1 : BitVec 32) : Nat :=
  let c0_i32_759 : BitVec 32 := 0#32
  let c1_i32_758 : BitVec 32 := 1#32
  let v564 : BitVec 32 := Scalar.muli v1 c1_i32_758
  let v565 : BitVec 32 := Scalar.addi c0_i32_759 v564
  v565.toNat
def k0_dev21 (v0 : BitVec 32) : Nat :=
  let c0_i32_826 : BitVec 32 := 0#32
  let c1_i32_825 : BitVec 32 := 1#32
  let v602 : BitVec 32 := Scalar.muli v0 c1_i32_825
  let v603 : BitVec 32 := Scalar.addi c0_i32_826 v602
  v603.toNat
def k0_dev22 (v1 : BitVec 32) : Nat :=
  let c0_i32_840 : BitVec 32 := 0#32
  let c1_i32_839 : BitVec 32 := 1#32
  let v612 : BitVec 32 := Scalar.muli v1 c1_i32_839
  let v613 : BitVec 32 := Scalar.addi c0_i32_840 v612
  v613.toNat
def k0_dev23 (v0 : BitVec 32) : Nat :=
  let c0_i32_935 : BitVec 32 := 0#32
  let c1_i32_934 : BitVec 32 := 1#32
  let v689 : BitVec 32 := Scalar.muli v0 c1_i32_934
  let v690 : BitVec 32 := Scalar.addi c0_i32_935 v689
  v690.toNat
def k0_dev24 (v1 : BitVec 32) : Nat :=
  let c0_i32_949 : BitVec 32 := 0#32
  let c1_i32_948 : BitVec 32 := 1#32
  let v699 : BitVec 32 := Scalar.muli v1 c1_i32_948
  let v700 : BitVec 32 := Scalar.addi c0_i32_949 v699
  v700.toNat
def k0_dev25 (v0 : BitVec 32) : Nat :=
  let c0_i32_1016 : BitVec 32 := 0#32
  let c1_i32_1015 : BitVec 32 := 1#32
  let v737 : BitVec 32 := Scalar.muli v0 c1_i32_1015
  let v738 : BitVec 32 := Scalar.addi c0_i32_1016 v737
  v738.toNat
def k0_dev26 (v1 : BitVec 32) : Nat :=
  let c0_i32_1030 : BitVec 32 := 0#32
  let c1_i32_1029 : BitVec 32 := 1#32
  let v747 : BitVec 32 := Scalar.muli v1 c1_i32_1029
  let v748 : BitVec 32 := Scalar.addi c0_i32_1030 v747
  v748.toNat
def k0_dev27 (v0 : BitVec 32) : Nat :=
  let c0_i32_1125 : BitVec 32 := 0#32
  let c1_i32_1124 : BitVec 32 := 1#32
  let v824 : BitVec 32 := Scalar.muli v0 c1_i32_1124
  let v825 : BitVec 32 := Scalar.addi c0_i32_1125 v824
  v825.toNat
def k0_dev28 (v1 : BitVec 32) : Nat :=
  let c0_i32_1139 : BitVec 32 := 0#32
  let c1_i32_1138 : BitVec 32 := 1#32
  let v834 : BitVec 32 := Scalar.muli v1 c1_i32_1138
  let v835 : BitVec 32 := Scalar.addi c0_i32_1139 v834
  v835.toNat
def k0_dev29 (v0 : BitVec 32) : Nat :=
  let c0_i32_1206 : BitVec 32 := 0#32
  let c1_i32_1205 : BitVec 32 := 1#32
  let v872 : BitVec 32 := Scalar.muli v0 c1_i32_1205
  let v873 : BitVec 32 := Scalar.addi c0_i32_1206 v872
  v873.toNat
def k0_dev30 (v1 : BitVec 32) : Nat :=
  let c0_i32_1220 : BitVec 32 := 0#32
  let c1_i32_1219 : BitVec 32 := 1#32
  let v882 : BitVec 32 := Scalar.muli v1 c1_i32_1219
  let v883 : BitVec 32 := Scalar.addi c0_i32_1220 v882
  v883.toNat
def k0_dev31 (v0 : BitVec 32) : Nat :=
  let c0_i32_1315 : BitVec 32 := 0#32
  let c1_i32_1314 : BitVec 32 := 1#32
  let v959 : BitVec 32 := Scalar.muli v0 c1_i32_1314
  let v960 : BitVec 32 := Scalar.addi c0_i32_1315 v959
  v960.toNat
def k0_dev32 (v1 : BitVec 32) : Nat :=
  let c0_i32_1329 : BitVec 32 := 0#32
  let c1_i32_1328 : BitVec 32 := 1#32
  let v969 : BitVec 32 := Scalar.muli v1 c1_i32_1328
  let v970 : BitVec 32 := Scalar.addi c0_i32_1329 v969
  v970.toNat
def k0_dev33 (v0 : BitVec 32) : Nat :=
  let c0_i32_1396 : BitVec 32 := 0#32
  let c1_i32_1395 : BitVec 32 := 1#32
  let v1007 : BitVec 32 := Scalar.muli v0 c1_i32_1395
  let v1008 : BitVec 32 := Scalar.addi c0_i32_1396 v1007
  v1008.toNat
def k0_dev34 (v1 : BitVec 32) : Nat :=
  let c0_i32_1410 : BitVec 32 := 0#32
  let c1_i32_1409 : BitVec 32 := 1#32
  let v1017 : BitVec 32 := Scalar.muli v1 c1_i32_1409
  let v1018 : BitVec 32 := Scalar.addi c0_i32_1410 v1017
  v1018.toNat
def k0_dev35 (v0 : BitVec 32) : Nat :=
  let c0_i32_1505 : BitVec 32 := 0#32
  let c1_i32_1504 : BitVec 32 := 1#32
  let v1094 : BitVec 32 := Scalar.muli v0 c1_i32_1504
  let v1095 : BitVec 32 := Scalar.addi c0_i32_1505 v1094
  v1095.toNat
def k0_dev36 (v1 : BitVec 32) : Nat :=
  let c0_i32_1519 : BitVec 32 := 0#32
  let c1_i32_1518 : BitVec 32 := 1#32
  let v1104 : BitVec 32 := Scalar.muli v1 c1_i32_1518
  let v1105 : BitVec 32 := Scalar.addi c0_i32_1519 v1104
  v1105.toNat
def k0_dev37 (v0 : BitVec 32) : Nat :=
  let c0_i32_1586 : BitVec 32 := 0#32
  let c1_i32_1585 : BitVec 32 := 1#32
  let v1142 : BitVec 32 := Scalar.muli v0 c1_i32_1585
  let v1143 : BitVec 32 := Scalar.addi c0_i32_1586 v1142
  v1143.toNat
def k0_dev38 (v1 : BitVec 32) : Nat :=
  let c0_i32_1600 : BitVec 32 := 0#32
  let c1_i32_1599 : BitVec 32 := 1#32
  let v1152 : BitVec 32 := Scalar.muli v1 c1_i32_1599
  let v1153 : BitVec 32 := Scalar.addi c0_i32_1600 v1152
  v1153.toNat
def k0_dev39 (v0 : BitVec 32) : Nat :=
  let c0_i32_1695 : BitVec 32 := 0#32
  let c1_i32_1694 : BitVec 32 := 1#32
  let v1229 : BitVec 32 := Scalar.muli v0 c1_i32_1694
  let v1230 : BitVec 32 := Scalar.addi c0_i32_1695 v1229
  v1230.toNat
def k0_dev40 (v1 : BitVec 32) : Nat :=
  let c0_i32_1709 : BitVec 32 := 0#32
  let c1_i32_1708 : BitVec 32 := 1#32
  let v1239 : BitVec 32 := Scalar.muli v1 c1_i32_1708
  let v1240 : BitVec 32 := Scalar.addi c0_i32_1709 v1239
  v1240.toNat
def k0_dev41 (v0 : BitVec 32) : Nat :=
  let c0_i32_1776 : BitVec 32 := 0#32
  let c1_i32_1775 : BitVec 32 := 1#32
  let v1277 : BitVec 32 := Scalar.muli v0 c1_i32_1775
  let v1278 : BitVec 32 := Scalar.addi c0_i32_1776 v1277
  v1278.toNat
def k0_dev42 (v1 : BitVec 32) : Nat :=
  let c0_i32_1790 : BitVec 32 := 0#32
  let c1_i32_1789 : BitVec 32 := 1#32
  let v1287 : BitVec 32 := Scalar.muli v1 c1_i32_1789
  let v1288 : BitVec 32 := Scalar.addi c0_i32_1790 v1287
  v1288.toNat
def k0_dev43 (v0 : BitVec 32) : Nat :=
  let c0_i32_1885 : BitVec 32 := 0#32
  let c1_i32_1884 : BitVec 32 := 1#32
  let v1364 : BitVec 32 := Scalar.muli v0 c1_i32_1884
  let v1365 : BitVec 32 := Scalar.addi c0_i32_1885 v1364
  v1365.toNat
def k0_dev44 (v1 : BitVec 32) : Nat :=
  let c0_i32_1899 : BitVec 32 := 0#32
  let c1_i32_1898 : BitVec 32 := 1#32
  let v1374 : BitVec 32 := Scalar.muli v1 c1_i32_1898
  let v1375 : BitVec 32 := Scalar.addi c0_i32_1899 v1374
  v1375.toNat
def k0_dev45 (v0 : BitVec 32) : Nat :=
  let c0_i32_1966 : BitVec 32 := 0#32
  let c1_i32_1965 : BitVec 32 := 1#32
  let v1412 : BitVec 32 := Scalar.muli v0 c1_i32_1965
  let v1413 : BitVec 32 := Scalar.addi c0_i32_1966 v1412
  v1413.toNat
def k0_dev46 (v1 : BitVec 32) : Nat :=
  let c0_i32_1980 : BitVec 32 := 0#32
  let c1_i32_1979 : BitVec 32 := 1#32
  let v1422 : BitVec 32 := Scalar.muli v1 c1_i32_1979
  let v1423 : BitVec 32 := Scalar.addi c0_i32_1980 v1422
  v1423.toNat
def k0_dev47 (v0 : BitVec 32) : Nat :=
  let c0_i32_2075 : BitVec 32 := 0#32
  let c1_i32_2074 : BitVec 32 := 1#32
  let v1499 : BitVec 32 := Scalar.muli v0 c1_i32_2074
  let v1500 : BitVec 32 := Scalar.addi c0_i32_2075 v1499
  v1500.toNat
def k0_dev48 (v1 : BitVec 32) : Nat :=
  let c0_i32_2089 : BitVec 32 := 0#32
  let c1_i32_2088 : BitVec 32 := 1#32
  let v1509 : BitVec 32 := Scalar.muli v1 c1_i32_2088
  let v1510 : BitVec 32 := Scalar.addi c0_i32_2089 v1509
  v1510.toNat
def k0_dev49 (v0 : BitVec 32) : Nat :=
  let c0_i32_2156 : BitVec 32 := 0#32
  let c1_i32_2155 : BitVec 32 := 1#32
  let v1547 : BitVec 32 := Scalar.muli v0 c1_i32_2155
  let v1548 : BitVec 32 := Scalar.addi c0_i32_2156 v1547
  v1548.toNat
def k0_dev50 (v1 : BitVec 32) : Nat :=
  let c0_i32_2170 : BitVec 32 := 0#32
  let c1_i32_2169 : BitVec 32 := 1#32
  let v1557 : BitVec 32 := Scalar.muli v1 c1_i32_2169
  let v1558 : BitVec 32 := Scalar.addi c0_i32_2170 v1557
  v1558.toNat
def k0_dev51 (v0 : BitVec 32) : Nat :=
  let c0_i32_2265 : BitVec 32 := 0#32
  let c1_i32_2264 : BitVec 32 := 1#32
  let v1634 : BitVec 32 := Scalar.muli v0 c1_i32_2264
  let v1635 : BitVec 32 := Scalar.addi c0_i32_2265 v1634
  v1635.toNat
def k0_dev52 (v1 : BitVec 32) : Nat :=
  let c0_i32_2279 : BitVec 32 := 0#32
  let c1_i32_2278 : BitVec 32 := 1#32
  let v1644 : BitVec 32 := Scalar.muli v1 c1_i32_2278
  let v1645 : BitVec 32 := Scalar.addi c0_i32_2279 v1644
  v1645.toNat
def k0_dev53 (v0 : BitVec 32) : Nat :=
  let c0_i32_2346 : BitVec 32 := 0#32
  let c1_i32_2345 : BitVec 32 := 1#32
  let v1682 : BitVec 32 := Scalar.muli v0 c1_i32_2345
  let v1683 : BitVec 32 := Scalar.addi c0_i32_2346 v1682
  v1683.toNat
def k0_dev54 (v1 : BitVec 32) : Nat :=
  let c0_i32_2360 : BitVec 32 := 0#32
  let c1_i32_2359 : BitVec 32 := 1#32
  let v1692 : BitVec 32 := Scalar.muli v1 c1_i32_2359
  let v1693 : BitVec 32 := Scalar.addi c0_i32_2360 v1692
  v1693.toNat
def k0_dev55 (v0 : BitVec 32) : Nat :=
  let c0_i32_2455 : BitVec 32 := 0#32
  let c1_i32_2454 : BitVec 32 := 1#32
  let v1769 : BitVec 32 := Scalar.muli v0 c1_i32_2454
  let v1770 : BitVec 32 := Scalar.addi c0_i32_2455 v1769
  v1770.toNat
def k0_dev56 (v1 : BitVec 32) : Nat :=
  let c0_i32_2469 : BitVec 32 := 0#32
  let c1_i32_2468 : BitVec 32 := 1#32
  let v1779 : BitVec 32 := Scalar.muli v1 c1_i32_2468
  let v1780 : BitVec 32 := Scalar.addi c0_i32_2469 v1779
  v1780.toNat
def k0_dev57 (v0 : BitVec 32) : Nat :=
  let c0_i32_2536 : BitVec 32 := 0#32
  let c1_i32_2535 : BitVec 32 := 1#32
  let v1817 : BitVec 32 := Scalar.muli v0 c1_i32_2535
  let v1818 : BitVec 32 := Scalar.addi c0_i32_2536 v1817
  v1818.toNat
def k0_dev58 (v1 : BitVec 32) : Nat :=
  let c0_i32_2550 : BitVec 32 := 0#32
  let c1_i32_2549 : BitVec 32 := 1#32
  let v1827 : BitVec 32 := Scalar.muli v1 c1_i32_2549
  let v1828 : BitVec 32 := Scalar.addi c0_i32_2550 v1827
  v1828.toNat
def k0_dev59 (v0 : BitVec 32) : Nat :=
  let c0_i32_2645 : BitVec 32 := 0#32
  let c1_i32_2644 : BitVec 32 := 1#32
  let v1904 : BitVec 32 := Scalar.muli v0 c1_i32_2644
  let v1905 : BitVec 32 := Scalar.addi c0_i32_2645 v1904
  v1905.toNat
def k0_dev60 (v1 : BitVec 32) : Nat :=
  let c0_i32_2659 : BitVec 32 := 0#32
  let c1_i32_2658 : BitVec 32 := 1#32
  let v1914 : BitVec 32 := Scalar.muli v1 c1_i32_2658
  let v1915 : BitVec 32 := Scalar.addi c0_i32_2659 v1914
  v1915.toNat
def k0_dev61 (v0 : BitVec 32) : Nat :=
  let c0_i32_2808 : BitVec 32 := 0#32
  let c1_i32_2807 : BitVec 32 := 1#32
  let v2019 : BitVec 32 := Scalar.muli v0 c1_i32_2807
  let v2020 : BitVec 32 := Scalar.addi c0_i32_2808 v2019
  v2020.toNat

def k0_chk2 (v0 : BitVec 32) : Prop :=
  ((k0_dev2 v0) < nD) ∧
  ((k0_dev3 v0) < nD) ∧
  ((k0_dev5 v0) < nD) ∧
  ((k0_dev7 v0) < nD) ∧
  ((k0_dev9 v0) < nD) ∧
  ((k0_dev11 v0) < nD) ∧
  ((k0_dev13 v0) < nD) ∧
  ((k0_dev15 v0) < nD) ∧
  ((k0_dev17 v0) < nD) ∧
  ((k0_dev19 v0) < nD) ∧
  ((k0_dev21 v0) < nD) ∧
  ((k0_dev23 v0) < nD) ∧
  ((k0_dev25 v0) < nD) ∧
  ((k0_dev27 v0) < nD) ∧
  ((k0_dev29 v0) < nD) ∧
  ((k0_dev31 v0) < nD) ∧
  ((k0_dev33 v0) < nD) ∧
  ((k0_dev35 v0) < nD) ∧
  ((k0_dev37 v0) < nD) ∧
  ((k0_dev39 v0) < nD) ∧
  ((k0_dev41 v0) < nD) ∧
  ((k0_dev43 v0) < nD) ∧
  ((k0_dev45 v0) < nD) ∧
  ((k0_dev47 v0) < nD) ∧
  ((k0_dev49 v0) < nD) ∧
  ((k0_dev51 v0) < nD) ∧
  ((k0_dev53 v0) < nD) ∧
  ((k0_dev55 v0) < nD) ∧
  ((k0_dev57 v0) < nD) ∧
  ((k0_dev59 v0) < nD) ∧
  ((k0_dev61 v0) < nD)
theorem k0_dev2_lt : ∀ (v0 : BitVec 32) (k0_hw2 : k0_chk2 v0), (k0_dev2 v0) < nD := fun v0 k0_hw2 => k0_hw2.1
theorem k0_dev3_lt : ∀ (v0 : BitVec 32) (k0_hw2 : k0_chk2 v0), (k0_dev3 v0) < nD := fun v0 k0_hw2 => k0_hw2.2.1
theorem k0_dev5_lt : ∀ (v0 : BitVec 32) (k0_hw2 : k0_chk2 v0), (k0_dev5 v0) < nD := fun v0 k0_hw2 => k0_hw2.2.2.1
theorem k0_dev7_lt : ∀ (v0 : BitVec 32) (k0_hw2 : k0_chk2 v0), (k0_dev7 v0) < nD := fun v0 k0_hw2 => k0_hw2.2.2.2.1
theorem k0_dev9_lt : ∀ (v0 : BitVec 32) (k0_hw2 : k0_chk2 v0), (k0_dev9 v0) < nD := fun v0 k0_hw2 => k0_hw2.2.2.2.2.1
theorem k0_dev11_lt : ∀ (v0 : BitVec 32) (k0_hw2 : k0_chk2 v0), (k0_dev11 v0) < nD := fun v0 k0_hw2 => k0_hw2.2.2.2.2.2.1
theorem k0_dev13_lt : ∀ (v0 : BitVec 32) (k0_hw2 : k0_chk2 v0), (k0_dev13 v0) < nD := fun v0 k0_hw2 => k0_hw2.2.2.2.2.2.2.1
theorem k0_dev15_lt : ∀ (v0 : BitVec 32) (k0_hw2 : k0_chk2 v0), (k0_dev15 v0) < nD := fun v0 k0_hw2 => k0_hw2.2.2.2.2.2.2.2.1
theorem k0_dev17_lt : ∀ (v0 : BitVec 32) (k0_hw2 : k0_chk2 v0), (k0_dev17 v0) < nD := fun v0 k0_hw2 => k0_hw2.2.2.2.2.2.2.2.2.1
theorem k0_dev19_lt : ∀ (v0 : BitVec 32) (k0_hw2 : k0_chk2 v0), (k0_dev19 v0) < nD := fun v0 k0_hw2 => k0_hw2.2.2.2.2.2.2.2.2.2.1
theorem k0_dev21_lt : ∀ (v0 : BitVec 32) (k0_hw2 : k0_chk2 v0), (k0_dev21 v0) < nD := fun v0 k0_hw2 => k0_hw2.2.2.2.2.2.2.2.2.2.2.1
theorem k0_dev23_lt : ∀ (v0 : BitVec 32) (k0_hw2 : k0_chk2 v0), (k0_dev23 v0) < nD := fun v0 k0_hw2 => k0_hw2.2.2.2.2.2.2.2.2.2.2.2.1
theorem k0_dev25_lt : ∀ (v0 : BitVec 32) (k0_hw2 : k0_chk2 v0), (k0_dev25 v0) < nD := fun v0 k0_hw2 => k0_hw2.2.2.2.2.2.2.2.2.2.2.2.2.1
theorem k0_dev27_lt : ∀ (v0 : BitVec 32) (k0_hw2 : k0_chk2 v0), (k0_dev27 v0) < nD := fun v0 k0_hw2 => k0_hw2.2.2.2.2.2.2.2.2.2.2.2.2.2.1
theorem k0_dev29_lt : ∀ (v0 : BitVec 32) (k0_hw2 : k0_chk2 v0), (k0_dev29 v0) < nD := fun v0 k0_hw2 => k0_hw2.2.2.2.2.2.2.2.2.2.2.2.2.2.2.1
theorem k0_dev31_lt : ∀ (v0 : BitVec 32) (k0_hw2 : k0_chk2 v0), (k0_dev31 v0) < nD := fun v0 k0_hw2 => k0_hw2.2.2.2.2.2.2.2.2.2.2.2.2.2.2.2.1
theorem k0_dev33_lt : ∀ (v0 : BitVec 32) (k0_hw2 : k0_chk2 v0), (k0_dev33 v0) < nD := fun v0 k0_hw2 => k0_hw2.2.2.2.2.2.2.2.2.2.2.2.2.2.2.2.2.1
theorem k0_dev35_lt : ∀ (v0 : BitVec 32) (k0_hw2 : k0_chk2 v0), (k0_dev35 v0) < nD := fun v0 k0_hw2 => k0_hw2.2.2.2.2.2.2.2.2.2.2.2.2.2.2.2.2.2.1
theorem k0_dev37_lt : ∀ (v0 : BitVec 32) (k0_hw2 : k0_chk2 v0), (k0_dev37 v0) < nD := fun v0 k0_hw2 => k0_hw2.2.2.2.2.2.2.2.2.2.2.2.2.2.2.2.2.2.2.1
theorem k0_dev39_lt : ∀ (v0 : BitVec 32) (k0_hw2 : k0_chk2 v0), (k0_dev39 v0) < nD := fun v0 k0_hw2 => k0_hw2.2.2.2.2.2.2.2.2.2.2.2.2.2.2.2.2.2.2.2.1
theorem k0_dev41_lt : ∀ (v0 : BitVec 32) (k0_hw2 : k0_chk2 v0), (k0_dev41 v0) < nD := fun v0 k0_hw2 => k0_hw2.2.2.2.2.2.2.2.2.2.2.2.2.2.2.2.2.2.2.2.2.1
theorem k0_dev43_lt : ∀ (v0 : BitVec 32) (k0_hw2 : k0_chk2 v0), (k0_dev43 v0) < nD := fun v0 k0_hw2 => k0_hw2.2.2.2.2.2.2.2.2.2.2.2.2.2.2.2.2.2.2.2.2.2.1
theorem k0_dev45_lt : ∀ (v0 : BitVec 32) (k0_hw2 : k0_chk2 v0), (k0_dev45 v0) < nD := fun v0 k0_hw2 => k0_hw2.2.2.2.2.2.2.2.2.2.2.2.2.2.2.2.2.2.2.2.2.2.2.1
theorem k0_dev47_lt : ∀ (v0 : BitVec 32) (k0_hw2 : k0_chk2 v0), (k0_dev47 v0) < nD := fun v0 k0_hw2 => k0_hw2.2.2.2.2.2.2.2.2.2.2.2.2.2.2.2.2.2.2.2.2.2.2.2.1
theorem k0_dev49_lt : ∀ (v0 : BitVec 32) (k0_hw2 : k0_chk2 v0), (k0_dev49 v0) < nD := fun v0 k0_hw2 => k0_hw2.2.2.2.2.2.2.2.2.2.2.2.2.2.2.2.2.2.2.2.2.2.2.2.2.1
theorem k0_dev51_lt : ∀ (v0 : BitVec 32) (k0_hw2 : k0_chk2 v0), (k0_dev51 v0) < nD := fun v0 k0_hw2 => k0_hw2.2.2.2.2.2.2.2.2.2.2.2.2.2.2.2.2.2.2.2.2.2.2.2.2.2.1
theorem k0_dev53_lt : ∀ (v0 : BitVec 32) (k0_hw2 : k0_chk2 v0), (k0_dev53 v0) < nD := fun v0 k0_hw2 => k0_hw2.2.2.2.2.2.2.2.2.2.2.2.2.2.2.2.2.2.2.2.2.2.2.2.2.2.2.1
theorem k0_dev55_lt : ∀ (v0 : BitVec 32) (k0_hw2 : k0_chk2 v0), (k0_dev55 v0) < nD := fun v0 k0_hw2 => k0_hw2.2.2.2.2.2.2.2.2.2.2.2.2.2.2.2.2.2.2.2.2.2.2.2.2.2.2.2.1
theorem k0_dev57_lt : ∀ (v0 : BitVec 32) (k0_hw2 : k0_chk2 v0), (k0_dev57 v0) < nD := fun v0 k0_hw2 => k0_hw2.2.2.2.2.2.2.2.2.2.2.2.2.2.2.2.2.2.2.2.2.2.2.2.2.2.2.2.2.1
theorem k0_dev59_lt : ∀ (v0 : BitVec 32) (k0_hw2 : k0_chk2 v0), (k0_dev59 v0) < nD := fun v0 k0_hw2 => k0_hw2.2.2.2.2.2.2.2.2.2.2.2.2.2.2.2.2.2.2.2.2.2.2.2.2.2.2.2.2.2.1
theorem k0_dev61_lt : ∀ (v0 : BitVec 32) (k0_hw2 : k0_chk2 v0), (k0_dev61 v0) < nD := fun v0 k0_hw2 => k0_hw2.2.2.2.2.2.2.2.2.2.2.2.2.2.2.2.2.2.2.2.2.2.2.2.2.2.2.2.2.2.2

def k0_dev62 (v1 : BitVec 32) : Nat :=
  let c0_i32_2822 : BitVec 32 := 0#32
  let c1_i32_2821 : BitVec 32 := 1#32
  let v2029 : BitVec 32 := Scalar.muli v1 c1_i32_2821
  let v2030 : BitVec 32 := Scalar.addi c0_i32_2822 v2029
  v2030.toNat

def k0_chk1 (v1 : BitVec 32) : Prop :=
  ((k0_dev1 v1) < nD) ∧
  ((k0_dev4 v1) < nD) ∧
  ((k0_dev6 v1) < nD) ∧
  ((k0_dev8 v1) < nD) ∧
  ((k0_dev10 v1) < nD) ∧
  ((k0_dev12 v1) < nD) ∧
  ((k0_dev14 v1) < nD) ∧
  ((k0_dev16 v1) < nD) ∧
  ((k0_dev18 v1) < nD) ∧
  ((k0_dev20 v1) < nD) ∧
  ((k0_dev22 v1) < nD) ∧
  ((k0_dev24 v1) < nD) ∧
  ((k0_dev26 v1) < nD) ∧
  ((k0_dev28 v1) < nD) ∧
  ((k0_dev30 v1) < nD) ∧
  ((k0_dev32 v1) < nD) ∧
  ((k0_dev34 v1) < nD) ∧
  ((k0_dev36 v1) < nD) ∧
  ((k0_dev38 v1) < nD) ∧
  ((k0_dev40 v1) < nD) ∧
  ((k0_dev42 v1) < nD) ∧
  ((k0_dev44 v1) < nD) ∧
  ((k0_dev46 v1) < nD) ∧
  ((k0_dev48 v1) < nD) ∧
  ((k0_dev50 v1) < nD) ∧
  ((k0_dev52 v1) < nD) ∧
  ((k0_dev54 v1) < nD) ∧
  ((k0_dev56 v1) < nD) ∧
  ((k0_dev58 v1) < nD) ∧
  ((k0_dev60 v1) < nD) ∧
  ((k0_dev62 v1) < nD)
theorem k0_dev1_lt : ∀ (v1 : BitVec 32) (k0_hw1 : k0_chk1 v1), (k0_dev1 v1) < nD := fun v1 k0_hw1 => k0_hw1.1
theorem k0_dev4_lt : ∀ (v1 : BitVec 32) (k0_hw1 : k0_chk1 v1), (k0_dev4 v1) < nD := fun v1 k0_hw1 => k0_hw1.2.1
theorem k0_dev6_lt : ∀ (v1 : BitVec 32) (k0_hw1 : k0_chk1 v1), (k0_dev6 v1) < nD := fun v1 k0_hw1 => k0_hw1.2.2.1
theorem k0_dev8_lt : ∀ (v1 : BitVec 32) (k0_hw1 : k0_chk1 v1), (k0_dev8 v1) < nD := fun v1 k0_hw1 => k0_hw1.2.2.2.1
theorem k0_dev10_lt : ∀ (v1 : BitVec 32) (k0_hw1 : k0_chk1 v1), (k0_dev10 v1) < nD := fun v1 k0_hw1 => k0_hw1.2.2.2.2.1
theorem k0_dev12_lt : ∀ (v1 : BitVec 32) (k0_hw1 : k0_chk1 v1), (k0_dev12 v1) < nD := fun v1 k0_hw1 => k0_hw1.2.2.2.2.2.1
theorem k0_dev14_lt : ∀ (v1 : BitVec 32) (k0_hw1 : k0_chk1 v1), (k0_dev14 v1) < nD := fun v1 k0_hw1 => k0_hw1.2.2.2.2.2.2.1
theorem k0_dev16_lt : ∀ (v1 : BitVec 32) (k0_hw1 : k0_chk1 v1), (k0_dev16 v1) < nD := fun v1 k0_hw1 => k0_hw1.2.2.2.2.2.2.2.1
theorem k0_dev18_lt : ∀ (v1 : BitVec 32) (k0_hw1 : k0_chk1 v1), (k0_dev18 v1) < nD := fun v1 k0_hw1 => k0_hw1.2.2.2.2.2.2.2.2.1
theorem k0_dev20_lt : ∀ (v1 : BitVec 32) (k0_hw1 : k0_chk1 v1), (k0_dev20 v1) < nD := fun v1 k0_hw1 => k0_hw1.2.2.2.2.2.2.2.2.2.1
theorem k0_dev22_lt : ∀ (v1 : BitVec 32) (k0_hw1 : k0_chk1 v1), (k0_dev22 v1) < nD := fun v1 k0_hw1 => k0_hw1.2.2.2.2.2.2.2.2.2.2.1
theorem k0_dev24_lt : ∀ (v1 : BitVec 32) (k0_hw1 : k0_chk1 v1), (k0_dev24 v1) < nD := fun v1 k0_hw1 => k0_hw1.2.2.2.2.2.2.2.2.2.2.2.1
theorem k0_dev26_lt : ∀ (v1 : BitVec 32) (k0_hw1 : k0_chk1 v1), (k0_dev26 v1) < nD := fun v1 k0_hw1 => k0_hw1.2.2.2.2.2.2.2.2.2.2.2.2.1
theorem k0_dev28_lt : ∀ (v1 : BitVec 32) (k0_hw1 : k0_chk1 v1), (k0_dev28 v1) < nD := fun v1 k0_hw1 => k0_hw1.2.2.2.2.2.2.2.2.2.2.2.2.2.1
theorem k0_dev30_lt : ∀ (v1 : BitVec 32) (k0_hw1 : k0_chk1 v1), (k0_dev30 v1) < nD := fun v1 k0_hw1 => k0_hw1.2.2.2.2.2.2.2.2.2.2.2.2.2.2.1
theorem k0_dev32_lt : ∀ (v1 : BitVec 32) (k0_hw1 : k0_chk1 v1), (k0_dev32 v1) < nD := fun v1 k0_hw1 => k0_hw1.2.2.2.2.2.2.2.2.2.2.2.2.2.2.2.1
theorem k0_dev34_lt : ∀ (v1 : BitVec 32) (k0_hw1 : k0_chk1 v1), (k0_dev34 v1) < nD := fun v1 k0_hw1 => k0_hw1.2.2.2.2.2.2.2.2.2.2.2.2.2.2.2.2.1
theorem k0_dev36_lt : ∀ (v1 : BitVec 32) (k0_hw1 : k0_chk1 v1), (k0_dev36 v1) < nD := fun v1 k0_hw1 => k0_hw1.2.2.2.2.2.2.2.2.2.2.2.2.2.2.2.2.2.1
theorem k0_dev38_lt : ∀ (v1 : BitVec 32) (k0_hw1 : k0_chk1 v1), (k0_dev38 v1) < nD := fun v1 k0_hw1 => k0_hw1.2.2.2.2.2.2.2.2.2.2.2.2.2.2.2.2.2.2.1
theorem k0_dev40_lt : ∀ (v1 : BitVec 32) (k0_hw1 : k0_chk1 v1), (k0_dev40 v1) < nD := fun v1 k0_hw1 => k0_hw1.2.2.2.2.2.2.2.2.2.2.2.2.2.2.2.2.2.2.2.1
theorem k0_dev42_lt : ∀ (v1 : BitVec 32) (k0_hw1 : k0_chk1 v1), (k0_dev42 v1) < nD := fun v1 k0_hw1 => k0_hw1.2.2.2.2.2.2.2.2.2.2.2.2.2.2.2.2.2.2.2.2.1
theorem k0_dev44_lt : ∀ (v1 : BitVec 32) (k0_hw1 : k0_chk1 v1), (k0_dev44 v1) < nD := fun v1 k0_hw1 => k0_hw1.2.2.2.2.2.2.2.2.2.2.2.2.2.2.2.2.2.2.2.2.2.1
theorem k0_dev46_lt : ∀ (v1 : BitVec 32) (k0_hw1 : k0_chk1 v1), (k0_dev46 v1) < nD := fun v1 k0_hw1 => k0_hw1.2.2.2.2.2.2.2.2.2.2.2.2.2.2.2.2.2.2.2.2.2.2.1
theorem k0_dev48_lt : ∀ (v1 : BitVec 32) (k0_hw1 : k0_chk1 v1), (k0_dev48 v1) < nD := fun v1 k0_hw1 => k0_hw1.2.2.2.2.2.2.2.2.2.2.2.2.2.2.2.2.2.2.2.2.2.2.2.1
theorem k0_dev50_lt : ∀ (v1 : BitVec 32) (k0_hw1 : k0_chk1 v1), (k0_dev50 v1) < nD := fun v1 k0_hw1 => k0_hw1.2.2.2.2.2.2.2.2.2.2.2.2.2.2.2.2.2.2.2.2.2.2.2.2.1
theorem k0_dev52_lt : ∀ (v1 : BitVec 32) (k0_hw1 : k0_chk1 v1), (k0_dev52 v1) < nD := fun v1 k0_hw1 => k0_hw1.2.2.2.2.2.2.2.2.2.2.2.2.2.2.2.2.2.2.2.2.2.2.2.2.2.1
theorem k0_dev54_lt : ∀ (v1 : BitVec 32) (k0_hw1 : k0_chk1 v1), (k0_dev54 v1) < nD := fun v1 k0_hw1 => k0_hw1.2.2.2.2.2.2.2.2.2.2.2.2.2.2.2.2.2.2.2.2.2.2.2.2.2.2.1
theorem k0_dev56_lt : ∀ (v1 : BitVec 32) (k0_hw1 : k0_chk1 v1), (k0_dev56 v1) < nD := fun v1 k0_hw1 => k0_hw1.2.2.2.2.2.2.2.2.2.2.2.2.2.2.2.2.2.2.2.2.2.2.2.2.2.2.2.1
theorem k0_dev58_lt : ∀ (v1 : BitVec 32) (k0_hw1 : k0_chk1 v1), (k0_dev58 v1) < nD := fun v1 k0_hw1 => k0_hw1.2.2.2.2.2.2.2.2.2.2.2.2.2.2.2.2.2.2.2.2.2.2.2.2.2.2.2.2.1
theorem k0_dev60_lt : ∀ (v1 : BitVec 32) (k0_hw1 : k0_chk1 v1), (k0_dev60 v1) < nD := fun v1 k0_hw1 => k0_hw1.2.2.2.2.2.2.2.2.2.2.2.2.2.2.2.2.2.2.2.2.2.2.2.2.2.2.2.2.2.1
theorem k0_dev62_lt : ∀ (v1 : BitVec 32) (k0_hw1 : k0_chk1 v1), (k0_dev62 v1) < nD := fun v1 k0_hw1 => k0_hw1.2.2.2.2.2.2.2.2.2.2.2.2.2.2.2.2.2.2.2.2.2.2.2.2.2.2.2.2.2.2

abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2x2048x512 : Shape := ⟨3, ![2, 2048, 512]⟩
abbrev S512x8192 : Shape := ⟨2, ![512, 8192]⟩
abbrev S2x128x128x64 : Shape := ⟨4, ![2, 128, 128, 64]⟩
abbrev S8192x512 : Shape := ⟨2, ![8192, 512]⟩
abbrev S2x2048x8192 : Shape := ⟨3, ![2, 2048, 8192]⟩
abbrev S2x2048x128x64 : Shape := ⟨4, ![2, 2048, 128, 64]⟩
abbrev S2x128x2048x128 : Shape := ⟨4, ![2, 128, 2048, 128]⟩
abbrev S_ : Shape := ⟨0, ![]⟩
abbrev S2x128x2048 : Shape := ⟨3, ![2, 128, 2048]⟩
abbrev S2x128x2048x1 : Shape := ⟨4, ![2, 128, 2048, 1]⟩
abbrev S2x128x64x2048 : Shape := ⟨4, ![2, 128, 64, 2048]⟩
abbrev S2x2048x128x1 : Shape := ⟨4, ![2, 2048, 128, 1]⟩

abbrev nBuf : Space → Nat
  | .hbm => 32
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S512x8192, .bf16⟩
  | .hbm, ⟨2, _⟩ => ⟨S2x128x128x64, .bf16⟩
  | .hbm, ⟨3, _⟩ => ⟨S2x128x128x64, .bf16⟩
  | .hbm, ⟨4, _⟩ => ⟨S8192x512, .bf16⟩
  | .hbm, ⟨5, _⟩ => ⟨S2x2048x512, .f32⟩
  | .hbm, ⟨6, _⟩ => ⟨S512x8192, .f32⟩
  | .hbm, ⟨7, _⟩ => ⟨S2x128x128x64, .f32⟩
  | .hbm, ⟨8, _⟩ => ⟨S2x128x128x64, .f32⟩
  | .hbm, ⟨9, _⟩ => ⟨S8192x512, .f32⟩
  | .hbm, ⟨10, _⟩ => ⟨S2x2048x8192, .f32⟩
  | .hbm, ⟨11, _⟩ => ⟨S2x2048x128x64, .f32⟩
  | .hbm, ⟨12, _⟩ => ⟨S2x128x2048x128, .f32⟩
  | .hbm, ⟨13, _⟩ => ⟨S_, .f32⟩
  | .hbm, ⟨14, _⟩ => ⟨S2x128x2048x128, .f32⟩
  | .hbm, ⟨15, _⟩ => ⟨S2x128x2048x128, .f32⟩
  | .hbm, ⟨16, _⟩ => ⟨S_, .f32⟩
  | .hbm, ⟨17, _⟩ => ⟨S2x128x2048, .f32⟩
  | .hbm, ⟨18, _⟩ => ⟨S2x128x2048x1, .f32⟩
  | .hbm, ⟨19, _⟩ => ⟨S2x128x2048x128, .f32⟩
  | .hbm, ⟨20, _⟩ => ⟨S2x128x2048x128, .f32⟩
  | .hbm, ⟨21, _⟩ => ⟨S2x128x2048x128, .f32⟩
  | .hbm, ⟨22, _⟩ => ⟨S_, .f32⟩
  | .hbm, ⟨23, _⟩ => ⟨S2x128x2048, .f32⟩
  | .hbm, ⟨24, _⟩ => ⟨S2x128x2048x1, .f32⟩
  | .hbm, ⟨25, _⟩ => ⟨S2x128x64x2048, .f32⟩
  | .hbm, ⟨26, _⟩ => ⟨S2x2048x128x64, .f32⟩
  | .hbm, ⟨27, _⟩ => ⟨S2x2048x128x1, .f32⟩
  | .hbm, ⟨28, _⟩ => ⟨S2x2048x128x64, .f32⟩
  | .hbm, ⟨29, _⟩ => ⟨S2x2048x128x64, .f32⟩
  | .hbm, ⟨30, _⟩ => ⟨S2x2048x8192, .f32⟩
  | .hbm, ⟨31, _⟩ => ⟨S2x2048x512, .f32⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Rounds.lean ====
/- The kernel's body, restated by the rounds of its ring: one definition per kind of step, each over
   the round's number, and the theorem that the printed body is their sequence. -/
module

public import proofs.«01_k».proof.Proof.Gen.KernelIdeal
public import proofs.«01_k».proof.Proof.Gen.KernelIdeal.Skeleton

@[expose] public section

noncomputable section

namespace Cert.KernelIdeal.Ring16

open Idealize.ShloMosaic Idealize.SL.Sem Cert.KernelIdeal.Gen

variable {F : FTy → Type} [FloatOps F]

/-! ## The facts of the slots, over a row and a batch -/

theorem inbSlot (h b : ℕ) (hh : h < 16) (hb : b < 2) :
    ∀ a, (![h, b, 0, 0] : Fin 4 → Nat) a + S1x1x128x512.size a ≤ S16x2x128x512.size a := by
  intro a; fin_cases a
  · show h + 1 ≤ 16; omega
  · show b + 1 ≤ 2; omega
  · show 0 + 128 ≤ 128; omega
  · show 0 + 512 ≤ 512; omega

theorem inbRow (h : ℕ) (hh : h < 16) :
    ∀ a, (![h, 0, 0, 0] : Fin 4 → Nat) a + S1x2x128x512.size a ≤ S16x2x128x512.size a := by
  intro a; fin_cases a
  · show h + 1 ≤ 16; omega
  · show 0 + 2 ≤ 2; omega
  · show 0 + 128 ≤ 128; omega
  · show 0 + 512 ≤ 512; omega

theorem inbSem (h b : ℕ) (hh : h < 16) (hb : b < 2) :
    ∀ a, (![h, b] : Fin 2 → Nat) a + S1x1.size a ≤ S16x2.size a := by
  intro a; fin_cases a
  · show h + 1 ≤ 16; omega
  · show b + 1 ≤ 2; omega

theorem wordsSlot_fin : ∀ h : Fin 16, ∀ b : Fin 2,
    (Rect.unit (s := S16x2x128x512) ![h.val, b.val, 0, 0] S1x1x128x512.size (inbSlot h b h.2 b.2)).WholeWords (EltTy.packing .bf16) := by
  decide

theorem wordsSlot (h b : ℕ) (hh : h < 16) (hb : b < 2) :
    (Rect.unit (s := S16x2x128x512) ![h, b, 0, 0] S1x1x128x512.size (inbSlot h b hh hb)).WholeWords (EltTy.packing .bf16) :=
  wordsSlot_fin ⟨h, hh⟩ ⟨b, hb⟩

theorem packedRow_fin : ∀ h : Fin 16,
    (Rect.unit (s := S16x2x128x512) ![h.val, 0, 0, 0] S1x2x128x512.size (inbRow h h.2)).PackedRows (EltTy.packing .bf16) := by
  decide

theorem packedRow (h : ℕ) (hh : h < 16) :
    (Rect.unit (s := S16x2x128x512) ![h, 0, 0, 0] S1x2x128x512.size (inbRow h hh)).PackedRows (EltTy.packing .bf16) :=
  packedRow_fin ⟨h, hh⟩

/-! ## Views and semaphores by row and batch -/

/-- Row `h` of a buffer of rows: both batches. -/
abbrev rowR (h : ℕ) (hh : h < 16) : Rect S16x2x128x512 := Rect.unit (s := S16x2x128x512) ![h, 0, 0, 0] S1x2x128x512.size (inbRow h hh)

/-- Batch `b` of row `h`. -/
abbrev slotR (h b : ℕ) (hh : h < 16) (hb : b < 2) : Rect S16x2x128x512 :=
  Rect.unit (s := S16x2x128x512) ![h, b, 0, 0] S1x1x128x512.size (inbSlot h b hh hb)

abbrev slotM (a : Memref sig .tc .vmem S16x2x128x512 .bf16) (h b : ℕ) (hh : h < 16) (hb : b < 2) : Memref sig .tc .vmem S128x512 .bf16 :=
  (a.slice (slotR h b hh hb) (fun _ => rfl)).squeeze S128x512 squeezes_S1x1x128x512_S128x512

abbrev semOf (s : DmaSems sig S16x2) (h b : ℕ) (hh : h < 16) (hb : b < 2) : DmaSem sig :=
  ((s.slice (Rect.unit (s := S16x2) ![h, b] S1x1.size (inbSem h b hh hb))).squeeze S_ squeezes_S1x1_S_).sem

/-! ## One device's partial product over a row -/

/-- What the kernel computes from a row of `x`: the attention over this device's heads, and its product with this
    device's rows of the output weights. -/
def partF (x : FVec F S2x128x512 .bf16) (wq : Vec F S512x512 .bf16) (k v : Vec F S16x128x64 .bf16) (wo : Vec F S512x512 .bf16) :
    FVec F S2x128x512 .f32 :=
  k0_pay6 (k0_pay4 x wq k) (k0_pay5 x wq k v) wo

/-- The same over a row loaded from the buffer of rows, rounded for sending. -/
def partB (x : Vec F S1x2x128x512 .bf16) (wq : Vec F S512x512 .bf16) (k v : Vec F S16x128x64 .bf16) (wo : Vec F S512x512 .bf16) :
    FVec F S2x128x512 .bf16 :=
  k0_pay18 x wq k v wo

/-- A landed row of sums and this device's partial, added. -/
def accB (p : FVec F S2x128x512 .bf16) (a : Vec F S1x2x128x512 .bf16) : FVec F S1x2x128x512 .bf16 :=
  k0_pay12 p a

/-! ## The steps -/

abbrev Pr (F : FTy → Type) := Prog (TpuEff nD τ sig (Elt F) Λ₀ .tc) PUnit

section Steps

variable (arg0 : Memref sig .tc .vmem S2x128x512 .bf16) (harg0 : arg0.IsWhole) (arg1 : Memref sig .tc .vmem S512x512 .bf16) (harg1 : arg1.IsWhole)
  (arg2 : Memref sig .tc .vmem S512x512 .bf16) (harg2 : arg2.IsWhole) (arg3 : Memref sig .tc .vmem S16x128x64 .bf16) (harg3 : arg3.IsWhole)
  (arg4 : Memref sig .tc .vmem S16x128x64 .bf16) (harg4 : arg4.IsWhole) (arg5 : Memref sig .tc .smem S1 .i32) (harg5 : arg5.IsWhole)
  (arg6 : Memref sig .tc .smem S1 .i32) (harg6 : arg6.IsWhole) (arg7 : Memref sig .tc .vmem S2x128x512 .f32) (harg7 : arg7.IsWhole)
  (arg8 : Memref sig .tc .vmem S16x2x128x512 .bf16) (harg8 : arg8.IsWhole) (arg9 : Memref sig .tc .vmem S16x2x128x512 .bf16) (harg9 : arg9.IsWhole)
  (arg10 : DmaSems sig S16x2) (arg11 : DmaSems sig S16x2) (arg12 : DmaSems sig S16x2) (arg13 : DmaSems sig S16x2)

/-- Send batch `b` of row `h` of a buffer of rows into row `h'` of device `d`'s. -/
def sendSlot (a : Memref sig .tc .vmem S16x2x128x512 .bf16) (ha : a.IsWhole) (ss rs : DmaSems sig S16x2) (d : Dev nD)
    (h h' b : ℕ) (hh : h < 16) (hh' : h' < 16) (hb : b < 2) (k : Pr F) : Pr F :=
  .op (.enqueueDma (slotM a h b hh hb) (.remote (Dev.tc d) (slotM a h' b hh' hb) (.dma (semOf ss h b hh hb))) (.dma (semOf rs h b hh hb))
    ((ha.wordExact_slice rfl _ (wordsSlot h b hh hb)).reshape _ _) ((ha.wordExact_slice rfl _ (wordsSlot h' b hh' hb)).reshape _ _)
    ⟨⟨rfl, Or.inl rfl⟩, trivial⟩) fun _ => k

/-- Wait for a semaphore of batch `b` of row `h`. -/
def waitSlot (a : Memref sig .tc .vmem S16x2x128x512 .bf16) (ha : a.IsWhole) (s : DmaSems sig S16x2)
    (h h₁ h₂ b : ℕ) (hh : h < 16) (hh₁ : h₁ < 16) (hh₂ : h₂ < 16) (hb : b < 2) (k : Pr F) : Pr F :=
  .op (.waitDma2 (semOf s h b hh hb) (slotM a h₁ b hh₁ hb) (slotM a h₂ b hh₂ hb)
    ((ha.wordExact_slice rfl _ (wordsSlot h₁ b hh₁ hb)).reshape _ _) ((ha.wordExact_slice rfl _ (wordsSlot h₂ b hh₂ hb)).reshape _ _)) fun _ => k

/-- Both batches of row `h` leave, one each way round the ring. -/
def sendRow (a : Memref sig .tc .vmem S16x2x128x512 .bf16) (ha : a.IsWhole) (ss rs : DmaSems sig S16x2) (r l : Dev nD)
    (h h' : ℕ) (hh : h < 16) (hh' : h' < 16) (k : Pr F) : Pr F :=
  sendSlot a ha ss rs r h h' 0 hh hh' (by decide) (sendSlot a ha ss rs l h h' 1 hh hh' (by decide) k)

/-- Both batches of row `h` have left, and both batches of row `h'` have arrived. -/
def waitRow (a : Memref sig .tc .vmem S16x2x128x512 .bf16) (ha : a.IsWhole) (ss rs : DmaSems sig S16x2)
    (h h' : ℕ) (hh : h < 16) (hh' : h' < 16) (k : Pr F) : Pr F :=
  waitSlot a ha ss h h' h 0 hh hh' hh (by decide) (waitSlot a ha rs h h h' 0 hh hh hh' (by decide)
    (waitSlot a ha ss h h' h 1 hh hh' hh (by decide) (waitSlot a ha rs h h h' 1 hh hh hh' (by decide) k)))

/-- The four operands held in full. -/
def loadOps (k : Vec F S512x512 .bf16 → Vec F S16x128x64 .bf16 → Vec F S16x128x64 .bf16 → Vec F S512x512 .bf16 → Pr F) : Pr F :=
  .op (.load arg1 (Rect.unit (s := S512x512) ![0, 0] S512x512.size inb_S512x512_S512x512_0_0).toLoadRect (View.loadsAt_vmem h_S512x512)) fun wq =>
  .op (.load arg3 (Rect.unit (s := S16x128x64) ![0, 0, 0] S16x128x64.size inb_S16x128x64_S16x128x64_0_0_0).toLoadRect (View.loadsAt_vmem h_S16x128x64)) fun kk =>
  .op (.load arg4 (Rect.unit (s := S16x128x64) ![0, 0, 0] S16x128x64.size inb_S16x128x64_S16x128x64_0_0_0).toLoadRect (View.loadsAt_vmem h_S16x128x64)) fun v =>
  .op (.load arg2 (Rect.unit (s := S512x512) ![0, 0] S512x512.size inb_S512x512_S512x512_0_0).toLoadRect (View.loadsAt_vmem h_S512x512)) fun wo =>
  k wq kk v wo

/-- Row `h` of a buffer of rows, read. -/
def loadRow (a : Memref sig .tc .vmem S16x2x128x512 .bf16) (h : ℕ) (hh : h < 16) (k : Vec F S1x2x128x512 .bf16 → Pr F) : Pr F :=
  .op (.load a (rowR h hh).toLoadRect (View.loadsAt_vmem h_S1x2x128x512)) k

/-- Row `h` of a buffer of rows, overwritten (and read first, the value unused). -/
def storeRow (a : Memref sig .tc .vmem S16x2x128x512 .bf16) (ha : a.IsWhole) (h : ℕ) (hh : h < 16) (w : Vec F S1x2x128x512 .bf16) (k : Pr F) : Pr F :=
  loadRow a h hh fun _ =>
  .op (.store a (rowR h hh) w Finset.univ
    (View.stores_vmem h_S1x2x128x512 (ha.storeExact_slice rfl _ (packedRow h hh)) (fun _ => rfl)) (.inl rfl)) fun _ => k

def loadOut (k : Vec F S2x128x512 .f32 → Pr F) : Pr F :=
  .op (.load arg7 (Rect.unit (s := S2x128x512) ![0, 0, 0] S2x128x512.size inb_S2x128x512_S2x128x512_0_0_0).toLoadRect (View.loadsAt_vmem h_S2x128x512)) k

def storeOut (w : Vec F S2x128x512 .f32) (k : Pr F) : Pr F :=
  loadOut arg7 fun _ =>
  .op (.store arg7 (Rect.unit (s := S2x128x512) ![0, 0, 0] S2x128x512.size inb_S2x128x512_S2x128x512_0_0_0) w Finset.univ
    (View.stores_vmem_bits_univ h_S2x128x512 rfl) (.inl rfl)) fun _ => k

def loadX (k : Vec F S2x128x512 .bf16 → Pr F) : Pr F :=
  .op (.load arg0 (Rect.unit (s := S2x128x512) ![0, 0, 0] S2x128x512.size inb_S2x128x512_S2x128x512_0_0_0).toLoadRect (View.loadsAt_vmem h_S2x128x512)) k

/-- After the last round: the sums of this device's own rows arrive, and are added to its own partial. -/
def epilogue (r l : Dev nD) : Pr F :=
  sendRow arg9 harg9 arg12 arg13 r l 15 0 (by decide) (by decide) <|
  waitRow arg9 harg9 arg12 arg13 15 0 (by decide) (by decide) <|
  loadOut arg7 fun o => loadRow arg9 0 (by decide) fun a => storeOut arg7 (k0_pay1 (k0_pay57 o) a) (.ret ⟨⟩)

/-- The last round (14): nothing left of `x` to send on. -/
def lastRound (r l : Dev nD) (k : Pr F) : Pr F :=
  sendRow arg9 harg9 arg12 arg13 r l 14 15 (by decide) (by decide) <|
  waitRow arg8 harg8 arg10 arg11 14 15 (by decide) (by decide) <|
  loadRow arg8 15 (by decide) fun x => loadOps arg1 arg2 arg3 arg4 fun wq kk v wo =>
  waitRow arg9 harg9 arg12 arg13 14 15 (by decide) (by decide) <|
  loadRow arg9 15 (by decide) fun a => storeRow arg9 harg9 15 (by decide) (accB (partB x wq kk v wo) a) k

/-- Round `h` between the first and the last. -/
def midRound (r l : Dev nD) (h : ℕ) (hh : h < 14) (k : Pr F) : Pr F :=
  sendRow arg9 harg9 arg12 arg13 r l h (h + 1) (by omega) (by omega) <|
  waitRow arg8 harg8 arg10 arg11 h (h + 1) (by omega) (by omega) <|
  sendRow arg8 harg8 arg10 arg11 r l (h + 1) (h + 2) (by omega) (by omega) <|
  loadRow arg8 (h + 1) (by omega) fun x => loadOps arg1 arg2 arg3 arg4 fun wq kk v wo =>
  waitRow arg9 harg9 arg12 arg13 h (h + 1) (by omega) (by omega) <|
  loadRow arg9 (h + 1) (by omega) fun a => storeRow arg9 harg9 (h + 1) (by omega) (accB (partB x wq kk v wo) a) k

/-- The rounds from `13 - n + 1` on. -/
def tail (r l : Dev nD) : (n : ℕ) → n < 14 → Pr F
  | 0, _ => lastRound arg1 arg2 arg3 arg4 arg8 harg8 arg9 harg9 arg10 arg11 arg12 arg13 r l
      (epilogue arg7 arg9 harg9 arg12 arg13 r l)
  | n + 1, hn => midRound arg1 arg2 arg3 arg4 arg8 harg8 arg9 harg9 arg10 arg11 arg12 arg13 r l (13 - n) (by omega)
      (tail r l n (by omega))

/-- The first round (0): there is no sum to pass on yet. -/
def firstRound (r l : Dev nD) (k : Pr F) : Pr F :=
  waitRow arg8 harg8 arg10 arg11 0 1 (by decide) (by decide) <|
  sendRow arg8 harg8 arg10 arg11 r l 1 2 (by decide) (by decide) <|
  loadRow arg8 1 (by decide) fun x => loadOps arg1 arg2 arg3 arg4 fun wq kk v wo =>
  storeRow arg9 harg9 1 (by decide) (shapeCast S1x2x128x512 (partB x wq kk v wo) shapeCasts_S2x128x512_S1x2x128x512) k

/-- Before the rounds: the neighbours have started, the device's own rows leave, and its own partial is kept. -/
def opening (r l : Dev nD) (k : Pr F) : Pr F :=
  .op (.semSignal (l, .tc) (sig.barrier 0 rfl) (1#32).toInt) fun _ =>
  .op (.semSignal (r, .tc) (sig.barrier 0 rfl) (1#32).toInt) fun _ =>
  .op (.semWait (sig.barrier 0 rfl) (2#32).toInt) fun _ =>
  loadX arg0 fun x => storeRow arg8 harg8 0 (by decide) (k0_pay2 x) <|
  sendRow arg8 harg8 arg10 arg11 r l 0 1 (by decide) (by decide) <|
  loadX arg0 fun x => loadOps arg1 arg2 arg3 arg4 fun wq kk v wo => storeOut arg7 (partF x wq kk v wo) k

/-- The body. -/
def bodyProg : Pr F :=
  smemLoadElt (Val := Elt F) (p := .tc) arg5 (Rect.unit (s := S1) ![0] S1.size inb_S1_S1_0) (View.loads_smem_one rfl numel1_S1) (Shape.Idx.first (numel1_S1.symm ▸ Nat.one_pos)) fun v0 =>
  .op (.assume (k0_chk2 v0) (k0_chk2.dec v0)) fun h0 =>
  smemLoadElt (Val := Elt F) (p := .tc) arg6 (Rect.unit (s := S1) ![0] S1.size inb_S1_S1_0) (View.loads_smem_one rfl numel1_S1) (Shape.Idx.first (numel1_S1.symm ▸ Nat.one_pos)) fun v1 =>
  .op (.assume (k0_chk1 v1) (k0_chk1.dec v1)) fun h1 =>
  opening arg0 arg1 arg2 arg3 arg4 arg7 arg8 harg8 arg10 arg11 ⟨k0_dev2 v0, k0_dev2_lt v0 h0.down⟩ ⟨k0_dev1 v1, k0_dev1_lt v1 h1.down⟩ <|
  firstRound arg1 arg2 arg3 arg4 arg8 harg8 arg9 harg9 arg10 arg11 ⟨k0_dev2 v0, k0_dev2_lt v0 h0.down⟩ ⟨k0_dev1 v1, k0_dev1_lt v1 h1.down⟩ <|
  tail arg1 arg2 arg3 arg4 arg7 arg8 harg8 arg9 harg9 arg10 arg11 arg12 arg13 ⟨k0_dev2 v0, k0_dev2_lt v0 h0.down⟩ ⟨k0_dev1 v1, k0_dev1_lt v1 h1.down⟩
    13 (by decide)

end Steps

end Cert.KernelIdeal.Ring16

end
-- ==== Proof.BodyEq.lean ====
/- The printed body of the kernel is the sequence of the ring's rounds. -/
module

public import proofs.«01_k».proof.Proof.Rounds

@[expose] public section

noncomputable section

namespace Cert.KernelIdeal.Ring16

open Idealize.ShloMosaic Idealize.SL.Sem Cert.KernelIdeal.Gen

variable {F : FTy → Type} [FloatOps F]

variable (arg0 : Memref sig .tc .vmem S2x128x512 .bf16) (harg0 : arg0.IsWhole) (arg1 : Memref sig .tc .vmem S512x512 .bf16) (harg1 : arg1.IsWhole)
  (arg2 : Memref sig .tc .vmem S512x512 .bf16) (harg2 : arg2.IsWhole) (arg3 : Memref sig .tc .vmem S16x128x64 .bf16) (harg3 : arg3.IsWhole)
  (arg4 : Memref sig .tc .vmem S16x128x64 .bf16) (harg4 : arg4.IsWhole) (arg5 : Memref sig .tc .smem S1 .i32) (harg5 : arg5.IsWhole)
  (arg6 : Memref sig .tc .smem S1 .i32) (harg6 : arg6.IsWhole) (arg7 : Memref sig .tc .vmem S2x128x512 .f32) (harg7 : arg7.IsWhole)
  (arg8 : Memref sig .tc .vmem S16x2x128x512 .bf16) (harg8 : arg8.IsWhole) (arg9 : Memref sig .tc .vmem S16x2x128x512 .bf16) (harg9 : arg9.IsWhole)
  (arg10 : DmaSems sig S16x2) (arg11 : DmaSems sig S16x2) (arg12 : DmaSems sig S16x2) (arg13 : DmaSems sig S16x2)

set_option maxRecDepth 1000000 in
set_option maxHeartbeats 4000000 in
theorem cc0_body_eq :
    cc0_body (F := F) arg0 harg0 arg1 harg1 arg2 harg2 arg3 harg3 arg4 harg4 arg5 harg5 arg6 harg6 arg7 harg7 arg8 harg8 arg9 harg9 arg10 arg11 arg12 arg13
      = bodyProg arg0 arg1 arg2 arg3 arg4 arg5 arg6 arg7 arg8 harg8 arg9 harg9 arg10 arg11 arg12 arg13 := rfl

end Cert.KernelIdeal.Ring16

end
-- ==== Proof.Protocol.lean ====
/- The ring's protocol.

   Each device `c` stands between `nxt c` and `prv c` (the ring's order is not the order of the device
   numbers). Two buffers of sixteen rows travel: the rows of `x` (`q = false`) and the sums (`q = true`),
   the first batch of a row to `nxt c`, the second to `prv c`. Row `h` of a buffer is sent into row
   `h + 1` of the neighbour's (the last into row 0). Every transfer has a send semaphore on the sender
   and a receive semaphore on the target, each used once; before them the two neighbours of a device
   signal its barrier semaphore, handing it the slots of theirs that it will write.

   The contents are parameters: `LF q c` what lands in buffer `q` of device `c`, `FF q c` what the buffer
   holds when its rows are sent on. -/
module

public import proofs.«01_k».proof.Proof.Rounds
public import Idealize.ShloMosaic.Lib.Pipeline.Regions
public import Idealize.ShloMosaic.Lib.Pipeline.Kit
public import Idealize.ShloMosaic.Lib.Rounds
public import Idealize.ShloMosaic.Lib.Tactic
public import Mathlib.Algebra.BigOperators.Intervals
public import Mathlib.Tactic.Abel

@[expose] public section

noncomputable section

namespace Cert.KernelIdeal.Ring16

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The ring -/

/-- The device after each in the ring's order, -/
def nxtTab : Fin 16 → Fin 16 := ![4, 2, 6, 0, 8, 1, 10, 3, 12, 5, 14, 7, 13, 9, 15, 11]
/-- and the one before. -/
def prvTab : Fin 16 → Fin 16 := ![3, 5, 1, 7, 0, 9, 2, 11, 4, 13, 6, 15, 8, 12, 10, 14]

def nxt (c : Dev nD) : Dev nD := nxtTab c
def prv (c : Dev nD) : Dev nD := prvTab c

theorem prv_nxt (c : Dev nD) : prv (nxt c) = c := by revert c; decide
theorem nxt_prv (c : Dev nD) : nxt (prv c) = c := by revert c; decide

/-- Where the first and the second batch of a row go, -/
def peer (b : Fin 2) (c : Dev nD) : Dev nD := if b = 0 then nxt c else prv c
/-- and where they come from. -/
def from' (b : Fin 2) (c : Dev nD) : Dev nD := if b = 0 then prv c else nxt c

theorem from_peer (b : Fin 2) (c : Dev nD) : from' b (peer b c) = c := by
  unfold from' peer; split <;> simp only [prv_nxt, nxt_prv]
theorem peer_from (b : Fin 2) (c : Dev nD) : peer b (from' b c) = c := by
  unfold from' peer; split <;> simp only [prv_nxt, nxt_prv]

/-- Sending one way, as a permutation of the devices. -/
def ring (b : Fin 2) : Dev nD ≃ Dev nD := ⟨peer b, from' b, from_peer b, peer_from b⟩

/-! ## Buffers, semaphores, cells -/

/-- The buffer of the rows of `x`, and of the sums. -/
def bufM (q : Bool) : Memref sig .tc .vmem S16x2x128x512 .bf16 :=
  match q with
  | false => Memref.whole cc0_scratch0
  | true => Memref.whole cc0_scratch1
theorem bufW (q : Bool) : (bufM q).IsWhole := by
  cases q <;> exact Memref.isWhole_whole _

/-- Their send semaphores, and receive semaphores. -/
def sS (q : Bool) : DmaSems sig S16x2 := match q with | false => cc0_scratch2 | true => cc0_scratch4
def sR (q : Bool) : DmaSems sig S16x2 := match q with | false => cc0_scratch3 | true => cc0_scratch5

abbrev dsem (n : ℕ) : DmaSem sig := ⟨n % 136, Nat.mod_lt _ (by decide)⟩

/-- The number of a send semaphore, and of a receive semaphore. -/
def sIdx (q : Bool) (h : ℕ) (b : Fin 2) : ℕ := 8 + 64 * q.toNat + 2 * h + b.val
def rIdx (q : Bool) (h : ℕ) (b : Fin 2) : ℕ := 40 + 64 * q.toNat + 2 * h + b.val

theorem semOf_sS_fin : ∀ (q : Bool) (h : Fin 16) (b : Fin 2), semOf (sS q) h.val b.val h.2 b.2 = dsem (sIdx q h b) := by decide
theorem semOf_sR_fin : ∀ (q : Bool) (h : Fin 16) (b : Fin 2), semOf (sR q) h.val b.val h.2 b.2 = dsem (rIdx q h b) := by decide
theorem semOf_sS (q : Bool) (h : ℕ) (hh : h < 16) (b : Fin 2) : semOf (sS q) h b.val hh b.2 = dsem (sIdx q h b) := semOf_sS_fin q ⟨h, hh⟩ b
theorem semOf_sR (q : Bool) (h : ℕ) (hh : h < 16) (b : Fin 2) : semOf (sR q) h b.val hh b.2 = dsem (rIdx q h b) := semOf_sR_fin q ⟨h, hh⟩ b

/-- The cells of device `c`: its barrier, and of the transfer of batch `b` of row `h` of buffer `q` the send cell
    (of a transfer out of `c`) and the receive cell (of one into `c`). -/
abbrev barCell (c : Dev nD) : GSem nD τ sig := ((c : Thread nD τ), .reg (sig.barrier 0 rfl))
abbrev sCell (q : Bool) (c : Dev nD) (h : ℕ) (b : Fin 2) : GSem nD τ sig := ((c : Thread nD τ), .dma (dsem (sIdx q h b)))
abbrev rCell (q : Bool) (c : Dev nD) (h : ℕ) (b : Fin 2) : GSem nD τ sig := ((c : Thread nD τ), .dma (dsem (rIdx q h b)))

/-- Reading a semaphore's number back. -/
def qOf (v : ℕ) : Bool := decide (72 ≤ v)
def rOf (v : ℕ) : Bool := decide ((v - 8) / 32 % 2 = 1)
def hOf (v : ℕ) : ℕ := (v - 8) % 32 / 2
def bOf (v : ℕ) : Fin 2 := ⟨v % 2, Nat.mod_lt _ (by decide)⟩

/-- The rows that are sent: of `x` all but the last, of the sums all but the first. -/
def live (q : Bool) (h : ℕ) : Prop := if q = true then 1 ≤ h ∧ h < 16 else h < 15
instance (q : Bool) (h : ℕ) : Decidable (live q h) := by unfold live; infer_instance
theorem live.lt {q : Bool} {h : ℕ} (hl : live q h) : h < 16 := by
  unfold live at hl; split at hl <;> omega

section Idx
variable (q : Bool) (h : ℕ) (hh : h < 16) (b : Fin 2)
include hh
theorem sIdx_lt : sIdx q h b < 136 := by unfold sIdx; cases q <;> simp <;> omega
theorem rIdx_lt : rIdx q h b < 136 := by unfold rIdx; cases q <;> simp <;> omega
theorem sIdx_mod : sIdx q h b % 136 = sIdx q h b := Nat.mod_eq_of_lt (sIdx_lt q h hh b)
theorem rIdx_mod : rIdx q h b % 136 = rIdx q h b := Nat.mod_eq_of_lt (rIdx_lt q h hh b)
theorem qOf_s : qOf (sIdx q h b) = q := by unfold qOf sIdx; cases q <;> simp <;> omega
theorem qOf_r : qOf (rIdx q h b) = q := by unfold qOf rIdx; cases q <;> simp <;> omega
theorem rOf_s : rOf (sIdx q h b) = false := by unfold rOf sIdx; cases q <;> simp <;> omega
theorem rOf_r : rOf (rIdx q h b) = true := by unfold rOf rIdx; cases q <;> simp <;> omega
theorem hOf_s : hOf (sIdx q h b) = h := by unfold hOf sIdx; cases q <;> simp <;> omega
theorem hOf_r : hOf (rIdx q h b) = h := by unfold hOf rIdx; cases q <;> simp <;> omega
theorem bOf_s : bOf (sIdx q h b) = b := by apply Fin.ext; unfold bOf sIdx; cases q <;> simp <;> omega
theorem bOf_r : bOf (rIdx q h b) = b := by apply Fin.ext; unfold bOf rIdx; cases q <;> simp <;> omega
end Idx

/-! ## Sets of elements, and holding them -/

/-- Batch `b` of row `h`; -/
def slotSet (h : ℕ) (b : Fin 2) : Finset S16x2x128x512.Idx := Finset.univ.filter fun i => (i 0).val = h ∧ (i 1).val = b.val
/-- the rows from `i` up to before `j`. -/
def rows (i j : ℕ) : Finset S16x2x128x512.Idx := Finset.univ.filter fun x => i ≤ (x 0).val ∧ (x 0).val < j

theorem slotR_set (h : ℕ) (b : Fin 2) (hh : h < 16) : (slotR h b.val hh b.2).set = slotSet h b := by
  ext i
  rw [Rect.mem_set_unit]
  unfold slotSet
  rw [Finset.mem_filter]
  have h2 : (i 2).val < 128 := (i 2).isLt
  have h3 : (i 3).val < 512 := (i 3).isLt
  constructor
  · intro H
    have H0 : h ≤ (i 0).val ∧ (i 0).val < h + 1 := H 0
    have H1 : b.val ≤ (i 1).val ∧ (i 1).val < b.val + 1 := H 1
    exact ⟨Finset.mem_univ _, by omega, by omega⟩
  · rintro ⟨-, H0, H1⟩ a
    fin_cases a
    · show h ≤ (i 0).val ∧ (i 0).val < h + 1; omega
    · show b.val ≤ (i 1).val ∧ (i 1).val < b.val + 1; omega
    · show 0 ≤ (i 2).val ∧ (i 2).val < 0 + 128; omega
    · show 0 ≤ (i 3).val ∧ (i 3).val < 0 + 512; omega

theorem rowR_set (h : ℕ) (hh : h < 16) : (rowR h hh).set = rows h (h + 1) := by
  ext i
  rw [Rect.mem_set_unit]
  unfold rows
  rw [Finset.mem_filter]
  have h1 : (i 1).val < 2 := (i 1).isLt
  have h2 : (i 2).val < 128 := (i 2).isLt
  have h3 : (i 3).val < 512 := (i 3).isLt
  constructor
  · intro H
    have H0 : h ≤ (i 0).val ∧ (i 0).val < h + 1 := H 0
    exact ⟨Finset.mem_univ _, by omega, by omega⟩
  · rintro ⟨-, H0, H1⟩ a
    fin_cases a
    · show h ≤ (i 0).val ∧ (i 0).val < h + 1; omega
    · show 0 ≤ (i 1).val ∧ (i 1).val < 0 + 2; omega
    · show 0 ≤ (i 2).val ∧ (i 2).val < 0 + 128; omega
    · show 0 ≤ (i 3).val ∧ (i 3).val < 0 + 512; omega

theorem row_slots (h : ℕ) : rows h (h + 1) = slotSet h 0 ∪ slotSet h 1 := by
  ext i
  unfold rows slotSet
  simp only [Finset.mem_union, Finset.mem_filter, Finset.mem_univ, true_and]
  have h1 : (i 1).val < 2 := (i 1).isLt
  show h ≤ (i 0).val ∧ (i 0).val < h + 1 ↔ ((i 0).val = h ∧ (i 1).val = 0) ∨ ((i 0).val = h ∧ (i 1).val = 1)
  omega

theorem slots_disjoint (h : ℕ) : Disjoint (slotSet h 0) (slotSet h 1) := by
  rw [Finset.disjoint_left]
  intro i h0 h1
  unfold slotSet at h0 h1
  rw [Finset.mem_filter] at h0 h1
  have a0 : (i 1).val = 0 := h0.2.2
  have a1 : (i 1).val = 1 := h1.2.2
  omega

theorem rows_union (i j k : ℕ) (hij : i ≤ j) (hjk : j ≤ k) : rows i k = rows i j ∪ rows j k := by
  ext x
  unfold rows
  simp only [Finset.mem_union, Finset.mem_filter, Finset.mem_univ, true_and]
  omega

theorem rows_disjoint (i j k : ℕ) : Disjoint (rows i j) (rows j k) := by
  rw [Finset.disjoint_left]
  intro x h0 h1
  unfold rows at h0 h1
  rw [Finset.mem_filter] at h0 h1
  omega

theorem rows_all : rows 0 16 = Finset.univ := by
  ext x
  unfold rows
  have : (x 0).val < 16 := (x 0).isLt
  simp only [Finset.mem_filter, Finset.mem_univ, true_and, iff_true]
  omega

/-! ## The resource algebra -/

/-- The pipeline's rounds and the ring's, side by side; the ring's duties are named by the batch. -/
abbrev URing : Type := URounds (GSem nD τ sig) (Fin 2)
abbrev UU : Type := UR sig nD τ × URing

local notation "𝕄" => MT nD τ sig Unit (Elt F) ℕ UU ℕ

abbrev EP : Emb (UR sig nD τ) (MT nD τ sig Unit (Elt F) ℕ UU ℕ) := embL
abbrev ER : Emb URing (MT nD τ sig Unit (Elt F) ℕ UU ℕ) := embR

/-- What a buffer of rows may hold. -/
abbrev Rows (F : FTy → Type) : Type := S16x2x128x512.Idx → Elt F .bf16

/-- The elements `S` of buffer `q` of device `c`, held at a share, with what they hold. -/
def pt (q : Bool) (c : Dev nD) (S : Finset S16x2x128x512.Idx) (sh : PosShare TreeShare) (V : Rows F) : sProp 𝕄 :=
  match q with
  | false => ((c : Thread nD τ).loc cc0_scratch0) ↦[S]{sh} V
  | true => ((c : Thread nD τ).loc cc0_scratch1) ↦[S]{sh} V

section Pt
variable (q : Bool) (c : Dev nD) (S T : Finset S16x2x128x512.Idx) (sh : PosShare TreeShare) (V V' : Rows F)

instance pt_storable : BI.Storable (upEmb : UEmb _ 𝕄) (pt q c S sh V) := by
  cases q <;> (unfold pt; infer_instance)

theorem pt_union (h : Disjoint S T) : pt q c (S ∪ T) sh V ⊣⊢ iprop(pt q c S sh V ∗ pt q c T sh V) := by
  cases q <;> exact pointsTo_union h

theorem pt_congr (h : ∀ i ∈ S, V i = V' i) : pt q c S sh V = pt q c S sh V' := by
  cases q <;> exact pointsTo_congr h

theorem pt_halves : pt q c S fullShare V ⊣⊢ iprop(pt q c S fullShare.left V ∗ pt q c S fullShare.right V) := by
  cases q <;> exact pointsTo_share (PosShare.mem_left_op_right fullShare)

theorem pt_row (h : ℕ) : pt q c (rows h (h + 1)) sh V ⊣⊢ iprop(pt q c (slotSet h 0) sh V ∗ pt q c (slotSet h 1) sh V) := by
  rw [row_slots]; exact pt_union q c _ _ sh V (slots_disjoint h)

theorem pt_rows (i j k : ℕ) (hij : i ≤ j) (hjk : j ≤ k) :
    pt q c (rows i k) sh V ⊣⊢ iprop(pt q c (rows i j) sh V ∗ pt q c (rows j k) sh V) := by
  rw [rows_union i j k hij hjk]; exact pt_union q c _ _ sh V (rows_disjoint i j k)
end Pt

/-- A slot at contents not chosen. -/
def slotAny (q : Bool) (c : Dev nD) (h : ℕ) (b : Fin 2) : sProp 𝕄 := iprop(∃ V : Rows F, pt q c (slotSet h b) fullShare V)

instance slotAny_storable (q : Bool) (c : Dev nD) (h : ℕ) (b : Fin 2) : BI.Storable (upEmb : UEmb _ 𝕄) (slotAny (F := F) q c h b) := by
  unfold slotAny; infer_instance

/-- The row a row is sent into. -/
abbrev dst (h : ℕ) : ℕ := (h + 1) % 16
theorem dst_lt (h : ℕ) : dst h < 16 := Nat.mod_lt _ (by decide)

/-- Over the transfers out of a device, one batch of each. -/
def both (f : Bool → ℕ → sProp 𝕄) : sProp 𝕄 := iprop(bigSep (Finset.Ico 0 15) (f false) ∗ bigSep (Finset.Ico 1 16) (f true))

/-- What a transfer of one slot credits. -/
abbrev N : ℕ := (slotM (bufM false) 0 0 (by decide) (by decide)).view.dmaCredit
theorem N_pos : 0 < N := View.dmaCredit_pos _ (by decide)
theorem credit (q : Bool) (h : ℕ) (b : ℕ) (hh : h < 16) (hb : b < 2) : (slotM (bufM q) h b hh hb).view.dmaCredit = N := by
  cases q <;> rfl

/-! ## The schedule -/

section Sched

variable (LF FF : Bool → Dev nD → Rows F)

/-- What the neighbour reached by batch `d` hands `c` with its barrier signal: its slots that `c` writes, and that each
    receive cell of theirs is at its first round. -/
def barPay (c : Dev nD) (d : Fin 2) : sProp 𝕄 :=
  both fun q h => iprop(slotAny q (peer d c) (dst h) d ∗ reached ER (rCell q (peer d c) h d) 0)

instance barPay_storable (c : Dev nD) (d : Fin 2) : BI.Storable (upEmb : UEmb _ 𝕄) (barPay (F := F) c d) := by
  unfold barPay both; infer_instance

/-- What a transfer's semaphores hand back: the slot read, at half its share; the slot written. -/
def dmaPay (c : Dev nD) (v : ℕ) : sProp 𝕄 :=
  if rOf v = true then pt (qOf v) c (slotSet (dst (hOf v)) (bOf v)) fullShare (LF (qOf v) c)
  else pt (qOf v) c (slotSet (hOf v) (bOf v)) fullShare.right (FF (qOf v) c)

instance dmaPay_storable (c : Dev nD) (v : ℕ) : BI.Storable (upEmb : UEmb _ 𝕄) (dmaPay LF FF c v) := by
  unfold dmaPay; split <;> infer_instance

/-- Every cell has one round: of two duties on a barrier, of one on the semaphore of a transfer. -/
def Rd : Rounds.Schedule (GSem nD τ sig) (Fin 2) 𝕄 where
  duties g r := if r = 0 ∧ g.1.2 = .tc then
      match g.2 with
      | .reg _ => Finset.univ
      | .dma s => if 8 ≤ s.val ∧ live (qOf s.val) (hOf s.val) then {0} else ∅
    else ∅
  unitless _ := False
  amount g _ _ := match g.2 with | .reg _ => 1 | .dma _ => N
  payload g _ d := match g.2 with | .reg _ => barPay g.1.1 d | .dma s => dmaPay LF FF g.1.1 s.val
  amount_pos g _ _ _ := by
    rcases g with ⟨t, s | s⟩
    · exact Nat.one_pos
    · exact N_pos

instance Rd_payload_storable (g : GSem nD τ sig) (r : ℕ) (d : Fin 2) :
    BI.Storable (upEmb : UEmb _ 𝕄) ((Rd LF FF).payload g r d) := by
  rcases g with ⟨t, s | s⟩
  · exact barPay_storable _ _
  · exact dmaPay_storable _ _ _ _

variable (q : Bool) (c : Dev nD) (h : ℕ) (b : Fin 2)

theorem duties_later (g : GSem nD τ sig) : ∀ r, 1 ≤ r → (Rd LF FF).duties g r = ∅ :=
  fun r hr => by dsimp only [Rd]; exact if_neg fun h => by omega
theorem duties_bar : (Rd LF FF).duties (barCell c) 0 = Finset.univ := by dsimp only [Rd]; exact if_pos ⟨rfl, rfl⟩
theorem duties_s (hl : live q h) : (Rd LF FF).duties (sCell q c h b) 0 = {0} := by
  dsimp only [Rd]; rw [if_pos ⟨rfl, rfl⟩]
  refine if_pos ?_
  show 8 ≤ sIdx q h b % 136 ∧ _
  rw [sIdx_mod q h hl.lt b, qOf_s q h hl.lt b, hOf_s q h hl.lt b]
  exact ⟨by unfold sIdx; omega, hl⟩
theorem duties_r (hl : live q h) : (Rd LF FF).duties (rCell q c h b) 0 = {0} := by
  dsimp only [Rd]; rw [if_pos ⟨rfl, rfl⟩]
  refine if_pos ?_
  show 8 ≤ rIdx q h b % 136 ∧ _
  rw [rIdx_mod q h hl.lt b, qOf_r q h hl.lt b, hOf_r q h hl.lt b]
  exact ⟨by unfold rIdx; omega, hl⟩

theorem amount_bar (d : Fin 2) : (Rd LF FF).amount (barCell c) 0 d = 1 := rfl
theorem amount_s (d : Fin 2) : (Rd LF FF).amount (sCell q c h b) 0 d = N := rfl
theorem amount_r (d : Fin 2) : (Rd LF FF).amount (rCell q c h b) 0 d = N := rfl

theorem expect_bar : (Rd LF FF).expect (barCell c) 0 = 2 := by
  unfold Schedule.expect Schedule.amountOf; rw [duties_bar]; rfl
theorem expect_s (hl : live q h) : (Rd LF FF).expect (sCell q c h b) 0 = N := by
  unfold Schedule.expect Schedule.amountOf; rw [duties_s LF FF q c h b hl, Finset.sum_singleton, amount_s]
theorem expect_r (hl : live q h) : (Rd LF FF).expect (rCell q c h b) 0 = N := by
  unfold Schedule.expect Schedule.amountOf; rw [duties_r LF FF q c h b hl, Finset.sum_singleton, amount_r]

theorem payload_bar (d : Fin 2) : (Rd LF FF).payload (barCell c) 0 d = barPay c d := rfl
theorem payload_s (hh : h < 16) (d : Fin 2) :
    (Rd LF FF).payload (sCell q c h b) 0 d = pt q c (slotSet h b) fullShare.right (FF q c) := by
  show dmaPay LF FF c (sIdx q h b % 136) = _
  rw [sIdx_mod q h hh b]; unfold dmaPay
  rw [rOf_s q h hh b, if_neg (by decide), qOf_s q h hh b, hOf_s q h hh b, bOf_s q h hh b]
theorem payload_r (hh : h < 16) (d : Fin 2) :
    (Rd LF FF).payload (rCell q c h b) 0 d = pt q c (slotSet (dst h) b) fullShare (LF q c) := by
  show dmaPay LF FF c (rIdx q h b % 136) = _
  rw [rIdx_mod q h hh b]; unfold dmaPay
  rw [rOf_r q h hh b, if_pos rfl, qOf_r q h hh b, hOf_r q h hh b, bOf_r q h hh b]

theorem rest_bar : bigSep ((Rd LF FF).duties (barCell c) 0 \ ∅) (fun d => (Rd LF FF).payload (barCell c) 0 d)
    = iprop(barPay c 0 ∗ barPay c 1) := by
  rw [Finset.sdiff_empty, duties_bar, show (Finset.univ : Finset (Fin 2)) = insert 0 {1} from by decide, bigSep_insert (by decide), bigSep_singleton]
  rfl
theorem rest_s (hl : live q h) : bigSep ((Rd LF FF).duties (sCell q c h b) 0 \ ∅) (fun d => (Rd LF FF).payload (sCell q c h b) 0 d)
    = pt q c (slotSet h b) fullShare.right (FF q c) := by
  rw [Finset.sdiff_empty, duties_s LF FF q c h b hl, bigSep_singleton, payload_s LF FF q c h b hl.lt]
theorem rest_r (hl : live q h) : bigSep ((Rd LF FF).duties (rCell q c h b) 0 \ ∅) (fun d => (Rd LF FF).payload (rCell q c h b) 0 d)
    = pt q c (slotSet (dst h) b) fullShare (LF q c) := by
  rw [Finset.sdiff_empty, duties_r LF FF q c h b hl, bigSep_singleton, payload_r LF FF q c h b hl.lt]

end Sched

/-! ## What a device owes, and the levels -/

/-- The credit a transfer out of `c` pays. -/
def due (q : Bool) (c : Dev nD) (h : ℕ) (b : Fin 2) : CellTallies nD τ sig Unit := tallyAt (rCell q (peer b c) h b) () N
/-- The rows of `x` from `i` on, and of the sums from `j` on, still to be sent. -/
def owed (c : Dev nD) (i j : ℕ) : CellTallies nD τ sig Unit :=
  (∑ h ∈ Finset.Ico i 15, (due false c h 1 + due false c h 0)) + ∑ h ∈ Finset.Ico j 16, (due true c h 1 + due true c h 0)

theorem owed_x (c : Dev nD) (i j : ℕ) (hi : i < 15) : owed c i j = owed c (i + 1) j + due false c i 1 + due false c i 0 := by
  unfold owed; rw [Finset.sum_eq_sum_Ico_succ_bot hi]; abel
theorem owed_a (c : Dev nD) (i j : ℕ) (hj : j < 16) : owed c i j = owed c i (j + 1) + due true c j 1 + due true c j 0 := by
  unfold owed; rw [Finset.sum_eq_sum_Ico_succ_bot hj]; abel
theorem owed_nil (c : Dev nD) : owed c 15 16 = 0 := by
  unfold owed; rw [Finset.Ico_self, Finset.Ico_self, Finset.sum_empty, Finset.sum_empty, add_zero]

/-- At launch also the two barrier signals. -/
def O₀ (c : Dev nD) : CellTallies nD τ sig Unit :=
  owed c 0 1 + tallyAt (barCell (nxt c)) () 1 + tallyAt (barCell (prv c)) () 1

def L (g : GSem nD τ sig) : Finset Unit := if g.1.2 = .tc then {()} else ∅
/-- The staging cells lowest, then the barriers, then the transfers by row, `x` before the sums. -/
def lv (g : GSem nD τ sig) (_ : Unit) : ℕ := match g.2 with
  | .reg _ => 1
  | .dma s => if s.val < 8 then 0 else 2 * hOf s.val + 2 + (qOf s.val).toNat

theorem L_of_ne (g : GSem nD τ sig) (h : g.1.2 ≠ .tc) : L g = ∅ := if_neg h
theorem L_tc (c : Dev nD) (sm : SemLoc sig) : L ((c : Thread nD τ), sm) = {()} := if_pos rfl

theorem lv_s (q : Bool) (c : Dev nD) (h : ℕ) (hh : h < 16) (b : Fin 2) (u : Unit) : lv (sCell q c h b) u = 2 * h + 2 + q.toNat := by
  show (if sIdx q h b % 136 < 8 then 0 else 2 * hOf (sIdx q h b % 136) + 2 + (qOf (sIdx q h b % 136)).toNat) = _
  rw [sIdx_mod q h hh b, if_neg (by unfold sIdx; omega), qOf_s q h hh b, hOf_s q h hh b]
theorem lv_r (q : Bool) (c : Dev nD) (h : ℕ) (hh : h < 16) (b : Fin 2) (u : Unit) : lv (rCell q c h b) u = 2 * h + 2 + q.toNat := by
  show (if rIdx q h b % 136 < 8 then 0 else 2 * hOf (rIdx q h b % 136) + 2 + (qOf (rIdx q h b % 136)).toNat) = _
  rw [rIdx_mod q h hh b, if_neg (by unfold rIdx; omega), qOf_r q h hh b, hOf_r q h hh b]

theorem due_pos {q : Bool} {c : Dev nD} {h : ℕ} {b : Fin 2} {g : GSem nD τ sig} {u : Unit} (hg : 0 < due q c h b g u) :
    g = rCell q (peer b c) h b := by
  unfold due at hg
  rw [tallyAt_apply] at hg
  by_contra hn
  rw [if_neg fun h' => hn h'.1] at hg
  exact Nat.lt_irrefl 0 hg

theorem sum_due_pos {q : Bool} {c : Dev nD} {i n : ℕ} {g : GSem nD τ sig} {u : Unit}
    (hg : 0 < (∑ h ∈ Finset.Ico i n, (due q c h 1 + due q c h 0)) g u) :
    ∃ h b, i ≤ h ∧ h < n ∧ g = rCell q (peer b c) h b := by
  rw [Finset.sum_apply, Finsupp.finset_sum_apply] at hg
  obtain ⟨h, hm, hp⟩ := Finset.exists_ne_zero_of_sum_ne_zero hg.ne'
  rw [Finset.mem_Ico] at hm
  rw [Pi.add_apply, Finsupp.add_apply] at hp
  rcases Nat.eq_zero_or_pos (due q c h 1 g u) with h1 | h1
  · exact ⟨h, 0, hm.1, hm.2, due_pos (Nat.pos_of_ne_zero fun h0 => hp (by rw [h1, h0, Nat.add_zero]))⟩
  · exact ⟨h, 1, hm.1, hm.2, due_pos h1⟩

/-- What is owed is owed to receive cells of rows not sent yet. -/
theorem owed_pos {c : Dev nD} {i j : ℕ} {g : GSem nD τ sig} {u : Unit} (hg : 0 < owed c i j g u) :
    ∃ q h b, h < 16 ∧ (bif q then j else i) ≤ h ∧ g = rCell q (peer b c) h b := by
  unfold owed at hg
  rw [Pi.add_apply, Finsupp.add_apply] at hg
  rcases Nat.eq_zero_or_pos ((∑ h ∈ Finset.Ico i 15, (due false c h 1 + due false c h 0)) g u) with h1 | h1
  · rw [h1, Nat.zero_add] at hg
    obtain ⟨h, b, h2, h3, h4⟩ := sum_due_pos hg
    exact ⟨true, h, b, h3, h2, h4⟩
  · obtain ⟨h, b, h2, h3, h4⟩ := sum_due_pos h1
    exact ⟨false, h, b, by omega, h2, h4⟩

/-- A device may wait on a cell of a level under those of all it owes. -/
theorem mayWait (c : Dev nD) (sm : SemLoc sig) (i j : ℕ) (l : ℕ) (hl : lv ((c : Thread nD τ), sm) () ≤ l)
    (hi : l < 2 * i + 2) (hj : l < 2 * j + 3) :
    (levAts L lv : sProp 𝕄) ⊢ MayWait (c : Thread nD τ) sm () (owed c i j) :=
  MayOwe.of_cut (L := L) (lev := lv) l (fun p hp => by rw [Finset.mem_singleton.mp hp, L_tc]; exact Finset.mem_singleton_self _)
    (fun g u hg => by
      obtain ⟨q, h, b, -, -, rfl⟩ := owed_pos hg
      exact Finset.mem_singleton_self _)
    (fun p hp => by rw [Finset.mem_singleton.mp hp]; exact hl)
    (fun g u hg => by
      obtain ⟨q, h, b, hh, hle, rfl⟩ := owed_pos hg
      rw [lv_r q _ h hh]
      cases q
      · have : i ≤ h := hle
        show l < 2 * h + 2 + 0; omega
      · have : j ≤ h := hle
        show l < 2 * h + 2 + 1; omega)

end Cert.KernelIdeal.Ring16

end
-- ==== Proof.Steps.lean ====
/- The steps of the kernel's body, each by a rule: what it takes and what it gives back. -/
module

public import proofs.«01_k».proof.Proof.Protocol

@[expose] public section

noncomputable section

namespace Cert.KernelIdeal.Ring16

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` to `Q`. -/
abbrev WP (c : Dev nD) (p : Pr F) (Q : PUnit → sProp 𝕄) : sProp 𝕄 :=
  wp frame (wpE (defs₀ (F := F)) 𝒱₀ (c : Thread nD τ) none) Set.univ p Q

/-! ## The invariants of the cells -/

/-- The row of the `i`-th row sent of a buffer. -/
def jrow (q : Bool) (i : Fin 15) : ℕ := i.val + q.toNat
theorem jrow_live (q : Bool) (i : Fin 15) : live q (jrow q i) := by
  unfold live jrow; have := i.isLt; cases q <;> simp <;> omega

/-- The semaphores of the transfers: send or receive, buffer, row, batch. -/
abbrev J : Type := Bool × Bool × Fin 15 × Fin 2
def jIdx (j : J) : ℕ := bif j.1 then rIdx j.2.1 (jrow j.2.1 j.2.2.1) j.2.2.2 else sIdx j.2.1 (jrow j.2.1 j.2.2.1) j.2.2.2
def jCell (c : Dev nD) (j : J) : GSem nD τ sig := ((c : Thread nD τ), .dma (dsem (jIdx j)))

theorem jIdx_lt : ∀ j : J, jIdx j < 136 := by
  rintro ⟨d, q, i, b⟩; cases d
  · exact sIdx_lt _ _ (jrow_live q i).lt _
  · exact rIdx_lt _ _ (jrow_live q i).lt _
theorem jIdx_inj : Function.Injective jIdx := by
  rintro ⟨d, q, i, b⟩ ⟨d', q', i', b'⟩ h
  have hd : rOf (jIdx (d, q, i, b)) = d := by
    cases d
    · exact rOf_s _ _ (jrow_live q i).lt _
    · exact rOf_r _ _ (jrow_live q i).lt _
  have hd' : rOf (jIdx (d', q', i', b')) = d' := by
    cases d'
    · exact rOf_s _ _ (jrow_live q' i').lt _
    · exact rOf_r _ _ (jrow_live q' i').lt _
  obtain rfl : d = d' := by rw [← hd, ← hd', h]
  have hq : ∀ (q : Bool) (i : Fin 15) (b : Fin 2), qOf (jIdx (d, q, i, b)) = q ∧ hOf (jIdx (d, q, i, b)) = jrow q i ∧ bOf (jIdx (d, q, i, b)) = b := by
    intro q i b
    cases d
    · exact ⟨qOf_s _ _ (jrow_live q i).lt _, hOf_s _ _ (jrow_live q i).lt _, bOf_s _ _ (jrow_live q i).lt _⟩
    · exact ⟨qOf_r _ _ (jrow_live q i).lt _, hOf_r _ _ (jrow_live q i).lt _, bOf_r _ _ (jrow_live q i).lt _⟩
  obtain ⟨h1, h2, h3⟩ := hq q i b
  obtain ⟨h1', h2', h3'⟩ := hq q' i' b'
  rw [h] at h1 h2 h3
  obtain rfl : q = q' := h1.symm.trans h1'
  obtain rfl : b = b' := h3.symm.trans h3'
  have hi : jrow q i = jrow q i' := h2.symm.trans h2'
  obtain rfl : i = i' := Fin.ext (by unfold jrow at hi; omega)
  rfl

theorem jCell_inj (c c' : Dev nD) (j j' : J) (h : jCell c j = jCell c' j') : c = c' ∧ j = j' := by
  unfold jCell at h
  have h1 := congrArg (fun g : GSem nD τ sig => g.1.1) h
  have h2 : SemLoc.dma (dsem (jIdx j)) = (SemLoc.dma (dsem (jIdx j')) : SemLoc sig) := congrArg (fun g : GSem nD τ sig => g.2) h
  have h3 : jIdx j % 136 = jIdx j' % 136 := congrArg Fin.val (SemLoc.dma.inj h2)
  rw [Nat.mod_eq_of_lt (jIdx_lt j), Nat.mod_eq_of_lt (jIdx_lt j')] at h3
  exact ⟨h1, jIdx_inj h3⟩

def barEmb : Dev nD ↪ GSem nD τ sig := ⟨barCell, fun a b h => congrArg (fun g : GSem nD τ sig => g.1.1) h⟩
def scEmb : Dev nD × J ↪ GSem nD τ sig := ⟨fun x => jCell x.1 x.2, fun a b h => Prod.ext (jCell_inj _ _ _ _ h).1 (jCell_inj _ _ _ _ h).2⟩
def barCells : Finset (GSem nD τ sig) := Finset.univ.map barEmb
def scCells : Finset (GSem nD τ sig) := Finset.univ.map scEmb

theorem live_row {q : Bool} {h : ℕ} (hl : live q h) : ∃ i, jrow q i = h := by
  unfold live at hl
  cases q
  · exact ⟨⟨h, hl⟩, rfl⟩
  · rw [if_pos rfl] at hl
    exact ⟨⟨h - 1, by omega⟩, by show h - 1 + 1 = h; omega⟩
theorem mem_bar (c : Dev nD) : barCell c ∈ barCells := Finset.mem_map.mpr ⟨c, Finset.mem_univ _, rfl⟩
theorem mem_s (q : Bool) (c : Dev nD) (h : ℕ) (b : Fin 2) (hl : live q h) : sCell q c h b ∈ scCells := by
  obtain ⟨i, rfl⟩ := live_row hl
  exact Finset.mem_map.mpr ⟨(c, (false, q, i, b)), Finset.mem_univ _, rfl⟩
theorem mem_r (q : Bool) (c : Dev nD) (h : ℕ) (b : Fin 2) (hl : live q h) : rCell q c h b ∈ scCells := by
  obtain ⟨i, rfl⟩ := live_row hl
  exact Finset.mem_map.mpr ⟨(c, (true, q, i, b)), Finset.mem_univ _, rfl⟩

section Steps

variable (LF FF : Bool → Dev nD → Rows F) (K : GSem nD τ sig → ℕ)

/-- Every cell's invariant, at its name, and that each barrier is at its first round. -/
def invs : sProp 𝕄 :=
  iprop(bigSep (barCells ∪ scCells) (fun g => cellInv ER (Rd LF FF) (K g) g) ∗ bigSep barCells fun g => reached ER g 0)

omit [FloatOps F] in
instance invs_persistent : BI.Persistent (invs LF FF K) := by unfold invs; infer_instance

omit [FloatOps F] in
theorem inv_of (g : GSem nD τ sig) (hg : g ∈ barCells ∪ scCells) : invs LF FF K ⊢ cellInv ER (Rd LF FF) (K g) g := by
  unfold invs
  exact sep_elim_left.trans (bigSep_elim hg)
omit [FloatOps F] in
theorem inv_bar (c : Dev nD) : invs LF FF K ⊢ cellInv ER (Rd LF FF) (K (barCell c)) (barCell c) :=
  inv_of LF FF K _ (Finset.mem_union_left _ (mem_bar c))
omit [FloatOps F] in
theorem inv_s (q : Bool) (c : Dev nD) (h : ℕ) (b : Fin 2) (hl : live q h) :
    invs LF FF K ⊢ cellInv ER (Rd LF FF) (K (sCell q c h b)) (sCell q c h b) :=
  inv_of LF FF K _ (Finset.mem_union_right _ (mem_s q c h b hl))
omit [FloatOps F] in
theorem inv_r (q : Bool) (c : Dev nD) (h : ℕ) (b : Fin 2) (hl : live q h) :
    invs LF FF K ⊢ cellInv ER (Rd LF FF) (K (rCell q c h b)) (rCell q c h b) :=
  inv_of LF FF K _ (Finset.mem_union_right _ (mem_r q c h b hl))
omit [FloatOps F] in
theorem reached_bar (c : Dev nD) : invs LF FF K ⊢ reached ER (barCell c) 0 := by
  unfold invs
  exact sep_elim_right.trans (bigSep_elim (mem_bar c))

/-! ## A transfer before, in flight, and after -/

/-- What device `c` has of its own for a transfer out of a slot and into the matching one. -/
def own (q : Bool) (c : Dev nD) (h : ℕ) (b : Fin 2) : sProp 𝕄 :=
  iprop(dutyTok ER (sCell q c h b) 0 0 ∗ dutyTok ER (rCell q (peer b c) h b) 0 0 ∗ reached ER (sCell q c h b) 0
    ∗ atPos ER (sCell q c h b) 0 ∅ 0 ∗ atPos ER (rCell q c h b) 0 ∅ 0 ∗ cred (tallyAt (rCell q c h b) () N))

/-- With the target's slot in hand: it may be sent; -/
def T0 (q : Bool) (c : Dev nD) (h : ℕ) (b : Fin 2) : sProp 𝕄 :=
  iprop((slotAny q (peer b c) (dst h) b ∗ reached ER (rCell q (peer b c) h b) 0) ∗ own q c h b)
/-- in flight; -/
def T1 (q : Bool) (c : Dev nD) (h : ℕ) (b : Fin 2) : sProp 𝕄 :=
  iprop(atPos ER (sCell q c h b) 0 ∅ 0 ∗ cred (tallyAt (sCell q c h b) () N)
    ∗ atPos ER (rCell q c h b) 0 ∅ 0 ∗ cred (tallyAt (rCell q c h b) () N))
/-- both its semaphores at zero again. -/
def Z (q : Bool) (c : Dev nD) (h : ℕ) (b : Fin 2) : sProp 𝕄 :=
  iprop(semVal (sCell q c h b) 0 ∗ semVal (rCell q c h b) 0)

/-- What a device owes, whatever it has waited on. -/
def owe (c : Dev nD) (O : CellTallies nD τ sig Unit) : sProp 𝕄 := iprop(∃ W, owes (c : Thread nD τ) O W)

/-- What lands in a slot is what the slot it was sent from held. -/
def Lands : Prop := ∀ (q : Bool) (c : Dev nD) (h : ℕ) (hl : live q h) (b : Fin 2) (x : S1x1x128x512.Idx),
  LF q (peer b c) ((slotR (dst h) b.val (dst_lt h) b.2).emb x) = FF q c ((slotR h b.val hl.lt b.2).emb x)

omit [FloatOps F] in
theorem set_x (h : ℕ) (b : Fin 2) (hh : h < 16) : (slotM (Memref.whole cc0_scratch0) h b.val hh b.2).view.set = slotSet h b := by
  rw [View.set_reshape, View.set_slice_whole]; exact slotR_set h b hh
omit [FloatOps F] in
theorem set_a (h : ℕ) (b : Fin 2) (hh : h < 16) : (slotM (Memref.whole cc0_scratch1) h b.val hh b.2).view.set = slotSet h b := by
  rw [View.set_reshape, View.set_slice_whole]; exact slotR_set h b hh

omit [FloatOps F] in
/-- A slot a transfer has written holds what lands there. -/
theorem landed_x (hL : Lands LF FF) (c : Dev nD) (h : ℕ) (b : Fin 2) (hl : live false h) (W : Rows F) :
    ∀ i ∈ slotSet (dst h) b, (slotM (Memref.whole cc0_scratch0) (dst h) b.val (dst_lt h) b.2).view.write (Elt F) W
      ((slotM (Memref.whole cc0_scratch0) h b.val hl.lt b.2).view.read (Elt F) (FF false c)) Finset.univ i = LF false (peer b c) i := by
  intro i hi
  rw [← set_x (dst h) b (dst_lt h)] at hi
  obtain ⟨y, -, rfl⟩ := Finset.mem_map.mp hi
  exact (View.write_emb_of_mem _ _ (Finset.mem_univ y)).trans (hL false c h hl b _).symm
omit [FloatOps F] in
theorem landed_a (hL : Lands LF FF) (c : Dev nD) (h : ℕ) (b : Fin 2) (hl : live true h) (W : Rows F) :
    ∀ i ∈ slotSet (dst h) b, (slotM (Memref.whole cc0_scratch1) (dst h) b.val (dst_lt h) b.2).view.write (Elt F) W
      ((slotM (Memref.whole cc0_scratch1) h b.val hl.lt b.2).view.read (Elt F) (FF true c)) Finset.univ i = LF true (peer b c) i := by
  intro i hi
  rw [← set_a (dst h) b (dst_lt h)] at hi
  obtain ⟨y, -, rfl⟩ := Finset.mem_map.mp hi
  exact (View.write_emb_of_mem _ _ (Finset.mem_univ y)).trans (hL true c h hl b _).symm

/-- The transfer of one slot of the buffer of `x`, over what `c` holds for it. -/
theorem wp_send_x (hL : Lands LF FF) (c : Dev nD) (h : ℕ) (hl : live false h) (b : Fin 2) (V : Rows F)
    (O O' : CellTallies nD τ sig Unit) (hO : O' = O + due false c h b) (W : Waits sig Unit) (k : Pr F) (Q : PUnit → sProp 𝕄) {hsc hsrc hdst hsem} :
    iprop(cellInv ER (Rd LF FF) (K (sCell false c h b)) (sCell false c h b) ∗ cellInv ER (Rd LF FF) (K (rCell false (peer b c) h b)) (rCell false (peer b c) h b)
      ∗ pt false c (slotSet h b) fullShare.right (FF false c) ∗ pt false (peer b c) (slotSet (dst h) b) fullShare V ∗ owes (c : Thread nD τ) O' W
      ∗ dutyTok ER (sCell false c h b) 0 0 ∗ reached ER (sCell false c h b) 0 ∗ dutyTok ER (rCell false (peer b c) h b) 0 0 ∗ reached ER (rCell false (peer b c) h b) 0)
      ⊢ iprop(((cred (tallyAt (sCell false c h b) () N) ∗ owes (c : Thread nD τ) O W) -∗ WP c k Q)
        -∗ WP c (.op (.enqueueDma (slotM (Memref.whole cc0_scratch0) h b.val hl.lt b.2)
          (.remote (Dev.tc (peer b c)) (slotM (Memref.whole cc0_scratch0) (dst h) b.val (dst_lt h) b.2) (.dma (dsem (sIdx false h b))) hsc) (.dma (dsem (rIdx false h b))) hsrc hdst hsem) fun _ => k) Q) := by
  simp only [pt]
  rw [← set_x h b hl.lt, ← set_x (dst h) b (dst_lt h)]
  exact Rounds.wp_send_pointsTo (Q := Q) (k := fun _ => k) (defs := defs₀ (F := F)) 𝒱₀ ER (Rd LF FF) (c : Thread nD τ) none (c' := Dev.tc (peer b c)) (κ₁ := K (sCell false c h b)) (κ₂ := K (rCell false (peer b c) h b))
      (src := slotM (Memref.whole cc0_scratch0) h b.val hl.lt b.2) (dst := slotM (Memref.whole cc0_scratch0) (dst h) b.val (dst_lt h) b.2)
      (sS := .dma (dsem (sIdx false h b))) (sem := .dma (dsem (rIdx false h b))) (hsc := hsc) (hsrc := hsrc) (hdst := hdst) (hsem := hsem)
      (r₁ := 0) (r₂ := 0) (d₁ := 0) (d₂ := 0) (fs := FF false c) (fd := V)
      (by rw [duties_s LF FF _ c h b hl]; exact Finset.mem_singleton_self _) (by rw [duties_r LF FF _ _ h b hl]; exact Finset.mem_singleton_self _)
      () () N (credit false (dst h) b.val (dst_lt h) b.2) (amount_s LF FF false c h b 0) (amount_r LF FF false (peer b c) h b 0) O hO (W := W)
      (by rw [payload_s LF FF false c h b hl.lt, set_x]; exact BI.Entails.refl _)
      (by rw [payload_r LF FF false _ h b hl.lt, set_x]; exact Entails.of_eq (pointsTo_congr (landed_x LF FF hL c h b hl V)))

/-- The transfer of one slot of the buffer of sums, over what `c` holds for it. -/
theorem wp_send_a (hL : Lands LF FF) (c : Dev nD) (h : ℕ) (hl : live true h) (b : Fin 2) (V : Rows F)
    (O O' : CellTallies nD τ sig Unit) (hO : O' = O + due true c h b) (W : Waits sig Unit) (k : Pr F) (Q : PUnit → sProp 𝕄) {hsc hsrc hdst hsem} :
    iprop(cellInv ER (Rd LF FF) (K (sCell true c h b)) (sCell true c h b) ∗ cellInv ER (Rd LF FF) (K (rCell true (peer b c) h b)) (rCell true (peer b c) h b)
      ∗ pt true c (slotSet h b) fullShare.right (FF true c) ∗ pt true (peer b c) (slotSet (dst h) b) fullShare V ∗ owes (c : Thread nD τ) O' W
      ∗ dutyTok ER (sCell true c h b) 0 0 ∗ reached ER (sCell true c h b) 0 ∗ dutyTok ER (rCell true (peer b c) h b) 0 0 ∗ reached ER (rCell true (peer b c) h b) 0)
      ⊢ iprop(((cred (tallyAt (sCell true c h b) () N) ∗ owes (c : Thread nD τ) O W) -∗ WP c k Q)
        -∗ WP c (.op (.enqueueDma (slotM (Memref.whole cc0_scratch1) h b.val hl.lt b.2)
          (.remote (Dev.tc (peer b c)) (slotM (Memref.whole cc0_scratch1) (dst h) b.val (dst_lt h) b.2) (.dma (dsem (sIdx true h b))) hsc) (.dma (dsem (rIdx true h b))) hsrc hdst hsem) fun _ => k) Q) := by
  simp only [pt]
  rw [← set_a h b hl.lt, ← set_a (dst h) b (dst_lt h)]
  exact Rounds.wp_send_pointsTo (Q := Q) (k := fun _ => k) (defs := defs₀ (F := F)) 𝒱₀ ER (Rd LF FF) (c : Thread nD τ) none (c' := Dev.tc (peer b c)) (κ₁ := K (sCell true c h b)) (κ₂ := K (rCell true (peer b c) h b))
      (src := slotM (Memref.whole cc0_scratch1) h b.val hl.lt b.2) (dst := slotM (Memref.whole cc0_scratch1) (dst h) b.val (dst_lt h) b.2)
      (sS := .dma (dsem (sIdx true h b))) (sem := .dma (dsem (rIdx true h b))) (hsc := hsc) (hsrc := hsrc) (hdst := hdst) (hsem := hsem)
      (r₁ := 0) (r₂ := 0) (d₁ := 0) (d₂ := 0) (fs := FF true c) (fd := V)
      (by rw [duties_s LF FF _ c h b hl]; exact Finset.mem_singleton_self _) (by rw [duties_r LF FF _ _ h b hl]; exact Finset.mem_singleton_self _)
      () () N (credit true (dst h) b.val (dst_lt h) b.2) (amount_s LF FF true c h b 0) (amount_r LF FF true (peer b c) h b 0) O hO (W := W)
      (by rw [payload_s LF FF true c h b hl.lt, set_a]; exact BI.Entails.refl _)
      (by rw [payload_r LF FF true _ h b hl.lt, set_a]; exact Entails.of_eq (pointsTo_congr (landed_a LF FF hL c h b hl V)))

/-- The transfer of one slot, of either buffer. -/
theorem wp_send (hL : Lands LF FF) (q : Bool) (c : Dev nD) (h : ℕ) (hl : live q h) (b : Fin 2) (ss rs : DmaSem sig)
    (hss : ss = dsem (sIdx q h b)) (hrs : rs = dsem (rIdx q h b)) (V : Rows F)
    (O O' : CellTallies nD τ sig Unit) (hO : O' = O + due q c h b) (W : Waits sig Unit) (k : Pr F) (Q : PUnit → sProp 𝕄) {hsrc hdst hsem} :
    iprop(cellInv ER (Rd LF FF) (K (sCell q c h b)) (sCell q c h b) ∗ cellInv ER (Rd LF FF) (K (rCell q (peer b c) h b)) (rCell q (peer b c) h b)
      ∗ pt q c (slotSet h b) fullShare.right (FF q c) ∗ pt q (peer b c) (slotSet (dst h) b) fullShare V ∗ owes (c : Thread nD τ) O' W
      ∗ dutyTok ER (sCell q c h b) 0 0 ∗ reached ER (sCell q c h b) 0 ∗ dutyTok ER (rCell q (peer b c) h b) 0 0 ∗ reached ER (rCell q (peer b c) h b) 0)
      ⊢ iprop(((cred (tallyAt (sCell q c h b) () N) ∗ owes (c : Thread nD τ) O W) -∗ WP c k Q)
        -∗ WP c (.op (.enqueueDma (slotM (bufM q) h b.val hl.lt b.2)
          (.remote (Dev.tc (peer b c)) (slotM (bufM q) (dst h) b.val (dst_lt h) b.2) (.dma ss)) (.dma rs) hsrc hdst hsem) fun _ => k) Q) := by
  subst hss hrs
  cases q
  · exact wp_send_x LF FF K hL c h hl b V O O' hO W k Q
  · exact wp_send_a LF FF K hL c h hl b V O O' hO W k Q

/-- One slot leaves. -/
theorem wp_sendSlot (hL : Lands LF FF) (q : Bool) (c d : Dev nD) (h : ℕ) (hl : live q h) (b : Fin 2) (hd : d = peer b c) (h' : ℕ) (hh' : h' < 16) (hd' : h' = dst h)
    (O O' : CellTallies nD τ sig Unit) (hO : O' = O + due q c h b) (k : Pr F) (Q : PUnit → sProp 𝕄) :
    iprop(invs LF FF K ∗ pt q c (slotSet h b) fullShare.right (FF q c) ∗ T0 q c h b ∗ owe c O')
      ⊢ iprop(((T1 q c h b ∗ owe c O) -∗ WP c k Q) -∗ WP c (sendSlot (bufM q) (bufW q) (sS q) (sR q) d h h' b.val hl.lt hh' b.2 k) Q) := by
  subst hd hd'
  unfold T0 T1 slotAny own owe sendSlot
  iintro ⟨#HI, Hs, ⟨⟨⟨%V, Hd⟩, Hr⟩, Hts, Htr, Hrs, Has, Har, Hc⟩, %W, HO⟩
  iintro Hk
  ihave HIs := inv_s LF FF K q c h b hl $$ HI
  ihave HIr := inv_r LF FF K q (peer b c) h b hl $$ HI
  iapply (wp_send LF FF K hL q c h hl b _ _ (semOf_sS q h hl.lt b) (semOf_sR q h hl.lt b) V O O' hO W k Q) $$ [HIs HIr Hs Hd HO Hts Hrs Htr Hr]
  · isplitl []
    · iexact HIs
    isplitl []
    · iexact HIr
    iframe
  iintro ⟨Hcs, HO⟩
  iapply Hk
  iframe
  iexists W
  iframe

/-- Both slots of a row leave. -/
theorem wp_sendRow (hL : Lands LF FF) (q : Bool) (c r l : Dev nD) (hr : r = nxt c) (hl' : l = prv c) (h : ℕ) (hh : h < 16) (hl : live q h) (h' : ℕ) (hh' : h' < 16) (hd' : h' = dst h)
    (O O' : CellTallies nD τ sig Unit) (hO : O' = O + due q c h 1 + due q c h 0) (k : Pr F) (Q : PUnit → sProp 𝕄) :
    iprop(invs LF FF K ∗ pt q c (rows h (h + 1)) fullShare (FF q c) ∗ T0 q c h 0 ∗ T0 q c h 1 ∗ owe c O')
      ⊢ iprop(((pt q c (rows h (h + 1)) fullShare.left (FF q c) ∗ T1 q c h 0 ∗ T1 q c h 1 ∗ owe c O) -∗ WP c k Q)
        -∗ WP c (sendRow (bufM q) (bufW q) (sS q) (sR q) r l h h' hh hh' k) Q) := by
  unfold sendRow
  iintro ⟨#HI, Hs, Ht0, Ht1, HO⟩
  iintro Hk
  ihave Hs := (pt_halves q c _ (FF q c)).1 $$ Hs
  icases Hs with ⟨Hsl, Hsr⟩
  ihave Hsr := (pt_row q c fullShare.right (FF q c) h).1 $$ Hsr
  icases Hsr with ⟨Hr0, Hr1⟩
  iapply (wp_sendSlot LF FF K hL q c r h hl 0 (hr.trans (by unfold peer; rw [if_pos rfl])) h' hh' hd' (O + due q c h 1) O' hO _ Q) $$ [Hr0 Ht0 HO]
  · iframe; iexact HI
  iintro ⟨Ht0, HO⟩
  iapply (wp_sendSlot LF FF K hL q c l h hl 1 (hl'.trans (by unfold peer; rw [if_neg (by decide)])) h' hh' hd' O _ rfl _ Q) $$ [Hr1 Ht1 HO]
  · iframe; iexact HI
  iintro ⟨Ht1, HO⟩
  iapply Hk
  iframe

/-- A wait on the semaphore of a transfer, all of whose credit is there or to come: its cell is closed. -/
theorem wp_waitSlot (q : Bool) (c : Dev nD) (s : DmaSems sig S16x2) (v : ℕ) (h h₁ h₂ : ℕ) (hh : h < 16) (hh₁ : h₁ < 16) (hh₂ : h₂ < 16) (b : Fin 2)
    (hs : semOf s h b.val hh b.2 = dsem v) (P : sProp 𝕄)
    (hexp : (Rd LF FF).expect ((c : Thread nD τ), .dma (dsem v)) 0 = N)
    (hP : bigSep ((Rd LF FF).duties ((c : Thread nD τ), .dma (dsem v)) 0 \ ∅) (fun d => (Rd LF FF).payload ((c : Thread nD τ), .dma (dsem v)) 0 d) = P)
    (O : CellTallies nD τ sig Unit) (κ : ℕ) (k : Pr F) (Q : PUnit → sProp 𝕄) :
    iprop(cellInv ER (Rd LF FF) κ ((c : Thread nD τ), .dma (dsem v)) ∗ cred (tallyAt ((c : Thread nD τ), SemLoc.dma (dsem v)) () N) ∗ owe c O
        ∗ MayWait (c : Thread nD τ) (.dma (dsem v)) () O ∗ atPos ER ((c : Thread nD τ), .dma (dsem v)) 0 ∅ 0)
      ⊢ iprop(((owe c O ∗ semVal ((c : Thread nD τ), .dma (dsem v)) 0 ∗ P) -∗ WP c k Q)
        -∗ WP c (waitSlot (bufM q) (bufW q) s h h₁ h₂ b.val hh hh₁ hh₂ b.2 k) Q) := by
  subst hP
  unfold waitSlot owe
  rw [hs]
  iintro ⟨#HI, Hc, ⟨%W, HO⟩, HM, Hat⟩ Hk
  iapply (Rounds.wp_wait_rest_token 𝒱₀ ER (Rd LF FF) (c : Thread nD τ) none (κ := κ)
      (wpE_waitDma2_eq 𝒱₀ (c : Thread nD τ) none Set.univ) (Set.mem_univ _) () (O := O) (W := W) (R := 0) (m := 0) (T := ∅)
      (by rw [Nat.zero_add, hexp])) $$ [Hc HO HM Hat]
  · isplitr; · iexact HI
    isplitl [Hc]
    · rw [credit q h₂ b.val hh₂ b.2]; iexact Hc
    isplitl [HO]; · iexact HO
    isplitl [HM]; · iexact HM
    iexact Hat
  iintro ⟨HO, Hat, -, Hpay⟩
  iapply (fupd_wp)
  imod (Rounds.cell_close ER (Rd LF FF) (Set.mem_univ κ) (fun h => h) (R := 0 + 1) (duties_later LF FF _)) $$ [Hat] with Hz
  · isplitr; · iexact HI
    iexact Hat
  imodintro
  iapply Hk
  iframe
  iexists _; iexact HO

/-- Both slots of a row have left, and both of the row sent into have arrived. -/
theorem wp_waitRow (q : Bool) (c : Dev nD) (h : ℕ) (hh : h < 16) (hl : live q h) (h' : ℕ) (hh' : h' < 16) (hd' : h' = dst h)
    (i j : ℕ) (hi : 2 * h + 2 + q.toNat < 2 * i + 2) (hj : 2 * h + 2 + q.toNat < 2 * j + 3) (k : Pr F) (Q : PUnit → sProp 𝕄) :
    iprop(invs LF FF K ∗ levAts L lv ∗ pt q c (rows h (h + 1)) fullShare.left (FF q c) ∗ T1 q c h 0 ∗ T1 q c h 1 ∗ owe c (owed c i j))
      ⊢ iprop(((pt q c (rows h (h + 1)) fullShare (FF q c) ∗ pt q c (rows h' (h' + 1)) fullShare (LF q c) ∗ Z q c h 0 ∗ Z q c h 1 ∗ owe c (owed c i j)) -∗ WP c k Q)
        -∗ WP c (waitRow (bufM q) (bufW q) (sS q) (sR q) h h' hh hh' k) Q) := by
  subst hd'
  unfold waitRow T1 Z
  iintro ⟨#HI, #HL, Hsl, ⟨Has0, Hcs0, Har0, Hcr0⟩, ⟨Has1, Hcs1, Har1, Hcr1⟩, HO⟩
  iintro Hk
  ihave #HIs0 := inv_s LF FF K q c h 0 hl $$ HI
  ihave #HIs1 := inv_s LF FF K q c h 1 hl $$ HI
  ihave #HIr0 := inv_r LF FF K q c h 0 hl $$ HI
  ihave #HIr1 := inv_r LF FF K q c h 1 hl $$ HI
  iapply (wp_waitSlot LF FF q c (sS q) (sIdx q h 0) h (dst h) h hh hh' hh 0 (semOf_sS q h hh 0) _ (expect_s LF FF q c h 0 hl) (rest_s LF FF q c h 0 hl)
    (owed c i j) (K (sCell q c h 0)) _ Q) $$ [HO Hcs0 Has0]
  · iframe
    isplitl []
    · iexact HIs0
    iapply (mayWait c (.dma (dsem (sIdx q h 0))) i j _ (le_of_eq (lv_s q c h hh 0 ())) hi hj); iexact HL
  iintro ⟨HO, Hzs0, Hp0⟩
  iapply (wp_waitSlot LF FF q c (sR q) (rIdx q h 0) h h (dst h) hh hh hh' 0 (semOf_sR q h hh 0) _ (expect_r LF FF q c h 0 hl) (rest_r LF FF q c h 0 hl)
    (owed c i j) (K (rCell q c h 0)) _ Q) $$ [HO Hcr0 Har0]
  · iframe
    isplitl []
    · iexact HIr0
    iapply (mayWait c (.dma (dsem (rIdx q h 0))) i j _ (le_of_eq (lv_r q c h hh 0 ())) hi hj); iexact HL
  iintro ⟨HO, Hzr0, Hq0⟩
  iapply (wp_waitSlot LF FF q c (sS q) (sIdx q h 1) h (dst h) h hh hh' hh 1 (semOf_sS q h hh 1) _ (expect_s LF FF q c h 1 hl) (rest_s LF FF q c h 1 hl)
    (owed c i j) (K (sCell q c h 1)) _ Q) $$ [HO Hcs1 Has1]
  · iframe
    isplitl []
    · iexact HIs1
    iapply (mayWait c (.dma (dsem (sIdx q h 1))) i j _ (le_of_eq (lv_s q c h hh 1 ())) hi hj); iexact HL
  iintro ⟨HO, Hzs1, Hp1⟩
  iapply (wp_waitSlot LF FF q c (sR q) (rIdx q h 1) h h (dst h) hh hh hh' 1 (semOf_sR q h hh 1) _ (expect_r LF FF q c h 1 hl) (rest_r LF FF q c h 1 hl)
    (owed c i j) (K (rCell q c h 1)) _ Q) $$ [HO Hcr1 Har1]
  · iframe
    isplitl []
    · iexact HIr1
    iapply (mayWait c (.dma (dsem (rIdx q h 1))) i j _ (le_of_eq (lv_r q c h hh 1 ())) hi hj); iexact HL
  iintro ⟨HO, Hzr1, Hq1⟩
  iapply Hk
  iframe HO Hzs0 Hzr0 Hzs1 Hzr1
  isplitl [Hsl Hp0 Hp1]
  · iapply (pt_halves q c _ (FF q c)).2
    iframe
    iapply (pt_row q c fullShare.right (FF q c) h).2
    iframe
  · iapply (pt_row q c fullShare (LF q c) (dst h)).2
    iframe

/-! ## Loads and stores -/

/-- Row `h` of a buffer's contents. -/
def rowOf (V : Rows F) (h : ℕ) (hh : h < 16) : Vec F S1x2x128x512 .bf16 := fun x => V ((rowR h hh).emb x)

theorem wp_loadRow (q : Bool) (c : Dev nD) (h : ℕ) (hh : h < 16) (sh : PosShare TreeShare) (V : Rows F) (k : Vec F S1x2x128x512 .bf16 → Pr F) (Q : PUnit → sProp 𝕄) :
    pt q c (rows h (h + 1)) sh V ⊢ iprop((pt q c (rows h (h + 1)) sh V -∗ WP c (k (rowOf V h hh)) Q) -∗ WP c (loadRow (bufM q) h hh k) Q) := by
  cases q
  · exact wp_load_rect 𝒱₀ (c : Thread nD τ) none Set.univ (m := Memref.whole cc0_scratch0) (r := rowR h hh) (k := k) (Q := Q) (f := V)
      (by rw [← rowR_set h hh]; exact fun i hi => by rw [View.set_slice_whole] at hi; exact hi)
  · exact wp_load_rect 𝒱₀ (c : Thread nD τ) none Set.univ (m := Memref.whole cc0_scratch1) (r := rowR h hh) (k := k) (Q := Q) (f := V)
      (by rw [← rowR_set h hh]; exact fun i hi => by rw [View.set_slice_whole] at hi; exact hi)

/-- A row overwritten: it holds whatever contents have the value stored as that row. -/
theorem wp_storeRow (q : Bool) (c : Dev nD) (h : ℕ) (hh : h < 16) (V V' : Rows F) (w : Vec F S1x2x128x512 .bf16) (hw : rowOf V' h hh = w) (k : Pr F) (Q : PUnit → sProp 𝕄) :
    pt q c (rows h (h + 1)) fullShare V ⊢ iprop((pt q c (rows h (h + 1)) fullShare V' -∗ WP c k Q) -∗ WP c (storeRow (bufM q) (bufW q) h hh w k) Q) := by
  subst hw
  unfold storeRow
  iintro Hp Hk
  iapply (wp_loadRow q c h hh fullShare V) $$ Hp
  iintro Hp
  cases q
  · simp only [pt]
    iapply (wp_store 𝒱₀ (c : Thread nD τ) none Set.univ (m := Memref.whole cc0_scratch0) (r := rowR h hh) (f := V) (S := rows h (h + 1)) (w := rowOf V' h hh)
      (by rw [← rowR_set h hh]; exact fun i hi => by rw [View.setOn_univ, View.set_slice_whole] at hi; exact hi)) $$ Hp
    iintro Hp
    iapply Hk
    iapply (Entails.of_eq (pointsTo_congr (ℓ := (c : Thread nD τ).loc cc0_scratch0) (g := V') ?_)) $$ Hp
    intro i hi
    rw [← rowR_set h hh] at hi
    have hi : i ∈ ((Memref.whole cc0_scratch0 : Memref sig .tc .vmem S16x2x128x512 .bf16).access (rowR h hh) : View sig .tc _ _ _).set := by
      rw [View.set_slice_whole]; exact hi
    obtain ⟨y, -, rfl⟩ := Finset.mem_map.mp hi
    exact View.write_emb_of_mem (v := (Memref.whole cc0_scratch0).access (rowR h hh)) _ _ (Finset.mem_univ y)
  · simp only [pt]
    iapply (wp_store 𝒱₀ (c : Thread nD τ) none Set.univ (m := Memref.whole cc0_scratch1) (r := rowR h hh) (f := V) (S := rows h (h + 1)) (w := rowOf V' h hh)
      (by rw [← rowR_set h hh]; exact fun i hi => by rw [View.setOn_univ, View.set_slice_whole] at hi; exact hi)) $$ Hp
    iintro Hp
    iapply Hk
    iapply (Entails.of_eq (pointsTo_congr (ℓ := (c : Thread nD τ).loc cc0_scratch1) (g := V') ?_)) $$ Hp
    intro i hi
    rw [← rowR_set h hh] at hi
    have hi : i ∈ ((Memref.whole cc0_scratch1 : Memref sig .tc .vmem S16x2x128x512 .bf16).access (rowR h hh) : View sig .tc _ _ _).set := by
      rw [View.set_slice_whole]; exact hi
    obtain ⟨y, -, rfl⟩ := Finset.mem_map.mp hi
    exact View.write_emb_of_mem (v := (Memref.whole cc0_scratch1).access (rowR h hh)) _ _ (Finset.mem_univ y)

/-- The operands of a partial product, in their staging buffers. -/
def ops (c : Dev nD) (wq : Vec F S512x512 .bf16) (kk v : Vec F S16x128x64 .bf16) (wo : Vec F S512x512 .bf16) : sProp 𝕄 :=
  iprop((((c : Thread nD τ).loc cc0_stg1_0) ↦{fullShare} (wq : cc0_stg1_0.ty.Contents (Elt F))) ∗ (((c : Thread nD τ).loc cc0_stg2_0) ↦{fullShare} (wo : cc0_stg2_0.ty.Contents (Elt F)))
    ∗ (((c : Thread nD τ).loc cc0_stg3_0) ↦{fullShare} (kk : cc0_stg3_0.ty.Contents (Elt F))) ∗ (((c : Thread nD τ).loc cc0_stg4_0) ↦{fullShare} (v : cc0_stg4_0.ty.Contents (Elt F))))

theorem z2 : (![0, 0] : Fin 2 → ℕ) = fun _ => 0 := by funext i; fin_cases i <;> rfl
theorem z3 : (![0, 0, 0] : Fin 3 → ℕ) = fun _ => 0 := by funext i; fin_cases i <;> rfl

omit [FloatOps F] in
theorem read_0 (f : cc0_stg0_0.ty.Contents (Elt F)) :
    (Memref.whole cc0_stg0_0).view.readAt (Elt F) (Rect.unit (s := S2x128x512) ![0, 0, 0] S2x128x512.size inb_S2x128x512_S2x128x512_0_0_0).toLoadRect f = f :=
  Memref.readAt_unit_zero (Elt F) cc0_stg0_0 z3 _ f
omit [FloatOps F] in
theorem read_1 (f : cc0_stg1_0.ty.Contents (Elt F)) :
    (Memref.whole cc0_stg1_0).view.readAt (Elt F) (Rect.unit (s := S512x512) ![0, 0] S512x512.size inb_S512x512_S512x512_0_0).toLoadRect f = f :=
  Memref.readAt_unit_zero (Elt F) cc0_stg1_0 z2 _ f
omit [FloatOps F] in
theorem read_2 (f : cc0_stg2_0.ty.Contents (Elt F)) :
    (Memref.whole cc0_stg2_0).view.readAt (Elt F) (Rect.unit (s := S512x512) ![0, 0] S512x512.size inb_S512x512_S512x512_0_0).toLoadRect f = f :=
  Memref.readAt_unit_zero (Elt F) cc0_stg2_0 z2 _ f
omit [FloatOps F] in
theorem read_3 (f : cc0_stg3_0.ty.Contents (Elt F)) :
    (Memref.whole cc0_stg3_0).view.readAt (Elt F) (Rect.unit (s := S16x128x64) ![0, 0, 0] S16x128x64.size inb_S16x128x64_S16x128x64_0_0_0).toLoadRect f = f :=
  Memref.readAt_unit_zero (Elt F) cc0_stg3_0 z3 _ f
omit [FloatOps F] in
theorem read_4 (f : cc0_stg4_0.ty.Contents (Elt F)) :
    (Memref.whole cc0_stg4_0).view.readAt (Elt F) (Rect.unit (s := S16x128x64) ![0, 0, 0] S16x128x64.size inb_S16x128x64_S16x128x64_0_0_0).toLoadRect f = f :=
  Memref.readAt_unit_zero (Elt F) cc0_stg4_0 z3 _ f
omit [FloatOps F] in
theorem read_7 (f : cc0_stg7_0.ty.Contents (Elt F)) :
    (Memref.whole cc0_stg7_0).view.readAt (Elt F) (Rect.unit (s := S2x128x512) ![0, 0, 0] S2x128x512.size inb_S2x128x512_S2x128x512_0_0_0).toLoadRect f = f :=
  Memref.readAt_unit_zero (Elt F) cc0_stg7_0 z3 _ f
omit [FloatOps F] in
theorem write_7 (f w : cc0_stg7_0.ty.Contents (Elt F)) :
    ((Memref.whole cc0_stg7_0 : Memref sig .tc .vmem S2x128x512 .f32).access (Rect.unit (s := S2x128x512) ![0, 0, 0] S2x128x512.size inb_S2x128x512_S2x128x512_0_0_0) : View sig .tc _ _ _).write (Elt F) f w Finset.univ = w :=
  Memref.write_access_unit_zero_univ (Elt F) cc0_stg7_0 z3 _ f w

theorem wp_loadOps (c : Dev nD) (wq : Vec F S512x512 .bf16) (kk v : Vec F S16x128x64 .bf16) (wo : Vec F S512x512 .bf16)
    (k : Vec F S512x512 .bf16 → Vec F S16x128x64 .bf16 → Vec F S16x128x64 .bf16 → Vec F S512x512 .bf16 → Pr F) (Q : PUnit → sProp 𝕄) :
    ops c wq kk v wo ⊢ iprop((ops c wq kk v wo -∗ WP c (k wq kk v wo) Q)
      -∗ WP c (loadOps (Memref.whole cc0_stg1_0) (Memref.whole cc0_stg2_0) (Memref.whole cc0_stg3_0) (Memref.whole cc0_stg4_0) k) Q) := by
  unfold ops loadOps
  iintro ⟨H1, H2, H3, H4⟩ Hk
  iapply (wp_load 𝒱₀ (c : Thread nD τ) none Set.univ (m := Memref.whole cc0_stg1_0) (Finset.subset_univ _)) $$ H1; iintro H1
  rw [read_1]
  iapply (wp_load 𝒱₀ (c : Thread nD τ) none Set.univ (m := Memref.whole cc0_stg3_0) (Finset.subset_univ _)) $$ H3; iintro H3
  rw [read_3]
  iapply (wp_load 𝒱₀ (c : Thread nD τ) none Set.univ (m := Memref.whole cc0_stg4_0) (Finset.subset_univ _)) $$ H4; iintro H4
  rw [read_4]
  iapply (wp_load 𝒱₀ (c : Thread nD τ) none Set.univ (m := Memref.whole cc0_stg2_0) (Finset.subset_univ _)) $$ H2; iintro H2
  rw [read_2]
  iapply Hk
  iframe

/-- The device's own rows, and its result, in their staging buffers. -/
def xPt (c : Dev nD) (x : Vec F S2x128x512 .bf16) : sProp 𝕄 := ((c : Thread nD τ).loc cc0_stg0_0) ↦{fullShare} (x : cc0_stg0_0.ty.Contents (Elt F))
def outPt (c : Dev nD) (o : Vec F S2x128x512 .f32) : sProp 𝕄 := ((c : Thread nD τ).loc cc0_stg7_0) ↦{fullShare} (o : cc0_stg7_0.ty.Contents (Elt F))

theorem wp_loadX (c : Dev nD) (x : Vec F S2x128x512 .bf16) (k : Vec F S2x128x512 .bf16 → Pr F) (Q : PUnit → sProp 𝕄) :
    xPt c x ⊢ iprop((xPt c x -∗ WP c (k x) Q) -∗ WP c (loadX (Memref.whole cc0_stg0_0) k) Q) := by
  unfold xPt loadX
  iintro H Hk
  iapply (wp_load 𝒱₀ (c : Thread nD τ) none Set.univ (m := Memref.whole cc0_stg0_0) (Finset.subset_univ _)) $$ H; iintro H
  rw [read_0]
  iapply Hk; iexact H

theorem wp_loadOut (c : Dev nD) (o : Vec F S2x128x512 .f32) (k : Vec F S2x128x512 .f32 → Pr F) (Q : PUnit → sProp 𝕄) :
    outPt c o ⊢ iprop((outPt c o -∗ WP c (k o) Q) -∗ WP c (loadOut (Memref.whole cc0_stg7_0) k) Q) := by
  unfold outPt loadOut
  iintro H Hk
  iapply (wp_load 𝒱₀ (c : Thread nD τ) none Set.univ (m := Memref.whole cc0_stg7_0) (Finset.subset_univ _)) $$ H; iintro H
  rw [read_7]
  iapply Hk; iexact H

theorem wp_storeOut (c : Dev nD) (o w : Vec F S2x128x512 .f32) (k : Pr F) (Q : PUnit → sProp 𝕄) :
    outPt c o ⊢ iprop((outPt c w -∗ WP c k Q) -∗ WP c (storeOut (Memref.whole cc0_stg7_0) w k) Q) := by
  unfold storeOut
  iintro H Hk
  iapply (wp_loadOut c o) $$ H
  iintro H
  unfold outPt
  iapply (wp_store 𝒱₀ (c : Thread nD τ) none Set.univ (m := Memref.whole cc0_stg7_0)
    (r := Rect.unit (s := S2x128x512) ![0, 0, 0] S2x128x512.size inb_S2x128x512_S2x128x512_0_0_0) (f := o) (w := w) (S := Finset.univ) (Finset.subset_univ _)) $$ H; iintro H
  rw [write_7]
  iapply Hk; iexact H

end Steps

end Cert.KernelIdeal.Ring16

end
-- ==== Proof.Body.lean ====
/- One device's run of the kernel's body, round by round. -/
module

public import proofs.«01_k».proof.Proof.Steps

@[expose] public section

noncomputable section

namespace Cert.KernelIdeal.Ring16

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Products over a range of rows -/

omit [FloatOps F] in
theorem peel (f : ℕ → sProp 𝕄) (i n : ℕ) (h : i < n) : bigSep (Finset.Ico i n) f = iprop(f i ∗ bigSep (Finset.Ico (i + 1) n) f) := by
  rw [← Finset.insert_Ico_add_one_left_eq_Ico h, bigSep_insert (by rw [Finset.mem_Ico]; omega)]; rfl
omit [FloatOps F] in
theorem push (f : ℕ → sProp 𝕄) (i n : ℕ) (h : i ≤ n) : bigSep (Finset.Ico i (n + 1)) f = iprop(f n ∗ bigSep (Finset.Ico i n) f) := by
  rw [← Finset.insert_Ico_right_eq_Ico_add_one h, bigSep_insert (by rw [Finset.mem_Ico]; omega)]; rfl

/-! ## What a run computes -/

/-- What the kernel's buffers hold, over what each device is given: its own rows `x`, its columns of the first weights, its
    heads of the two caches, and its rows of the output weights. -/
structure Flow (LF FF : Bool → Dev nD → Rows F) (x : Dev nD → Vec F S2x128x512 .bf16) (wq : Dev nD → Vec F S512x512 .bf16)
    (kk v : Dev nD → Vec F S16x128x64 .bf16) (wo : Dev nD → Vec F S512x512 .bf16) : Prop where
  /-- what lands in a slot is what was sent; -/
  lands : Lands LF FF
  /-- rows of `x` are sent on as they land; -/
  fwd : ∀ c, LF false c = FF false c
  /-- a device starts from its own; -/
  start : ∀ c, rowOf (FF false c) 0 (by decide) = k0_pay2 (x c)
  /-- the first sum sent is the first neighbour's partial; -/
  first : ∀ c, rowOf (FF true c) 1 (by decide)
    = shapeCast S1x2x128x512 (partB (rowOf (FF false c) 1 (by decide)) (wq c) (kk c) (v c) (wo c)) shapeCasts_S2x128x512_S1x2x128x512
  /-- and each later one adds a partial to what landed. -/
  next : ∀ c h (hh : h + 1 < 16), 1 ≤ h → rowOf (FF true c) (h + 1) hh
    = accB (partB (rowOf (FF false c) (h + 1) hh) (wq c) (kk c) (v c) (wo c)) (rowOf (LF true c) (h + 1) hh)

section Rounds

variable (LF FF : Bool → Dev nD → Rows F) (K : GSem nD τ sig → ℕ)

/-- A row's two transfers, before, in flight, and after. -/
def T0p (q : Bool) (c : Dev nD) (h : ℕ) : sProp 𝕄 := iprop(T0 q c h 0 ∗ T0 q c h 1)
def T1p (q : Bool) (c : Dev nD) (h : ℕ) : sProp 𝕄 := iprop(T1 q c h 0 ∗ T1 q c h 1)
def Zp (q : Bool) (c : Dev nD) (h : ℕ) : sProp 𝕄 := iprop(Z q c h 0 ∗ Z q c h 1)

/-- A device before round `h`: row `h` of `x` is on its way out, and row `h` of the sums ready to be sent. -/
def St (c : Dev nD) (h : ℕ) : sProp 𝕄 :=
  iprop(pt false c (rows 0 h) fullShare (FF false c) ∗ pt false c (rows h (h + 1)) fullShare.left (FF false c) ∗ T1p false c h
    ∗ pt true c (rows 1 (h + 1)) fullShare (FF true c)
    ∗ bigSep (Finset.Ico (h + 1) 15) (T0p false c) ∗ bigSep (Finset.Ico h 16) (T0p true c)
    ∗ bigSep (Finset.Ico 0 h) (Zp false c) ∗ bigSep (Finset.Ico 1 h) (Zp true c)
    ∗ owe c (owed c (h + 1) h))

/-- After the last round. -/
def St15 (c : Dev nD) : sProp 𝕄 :=
  iprop(pt false c (rows 0 16) fullShare (FF false c) ∗ pt true c (rows 1 16) fullShare (FF true c) ∗ T0p true c 15
    ∗ bigSep (Finset.Ico 0 15) (Zp false c) ∗ bigSep (Finset.Ico 1 15) (Zp true c) ∗ owe c (owed c 15 15))

variable (x : Dev nD → Vec F S2x128x512 .bf16) (wq : Dev nD → Vec F S512x512 .bf16)
    (kk v : Dev nD → Vec F S16x128x64 .bf16) (wo : Dev nD → Vec F S512x512 .bf16) (hF : Flow LF FF x wq kk v wo)
include hF

/-- A round between. -/
theorem wp_midRound (c r l : Dev nD) (hr : r = nxt c) (hl : l = prv c) (h : ℕ) (h1 : 1 ≤ h) (hh : h < 14) (k : Pr F) (Q : PUnit → sProp 𝕄) :
    iprop(invs LF FF K ∗ levAts L lv ∗ ops c (wq c) (kk c) (v c) (wo c) ∗ St FF c h)
      ⊢ iprop(((ops c (wq c) (kk c) (v c) (wo c) ∗ St FF c (h + 1)) -∗ WP c k Q)
        -∗ WP c (midRound (Memref.whole cc0_stg1_0) (Memref.whole cc0_stg2_0) (Memref.whole cc0_stg3_0) (Memref.whole cc0_stg4_0)
          (bufM false) (bufW false) (bufM true) (bufW true) (sS false) (sR false) (sS true) (sR true) r l h hh k) Q) := by
  have hd1 : h + 1 = dst h := (Nat.mod_eq_of_lt (by omega)).symm
  have hd2 : h + 2 = dst (h + 1) := (Nat.mod_eq_of_lt (by omega)).symm
  unfold midRound St T1p
  rw [peel (T0p false c) (h + 1) 15 (by omega), peel (T0p true c) h 16 (by omega), push (Zp false c) 0 h (Nat.zero_le _), push (Zp true c) 1 h h1]
  unfold T0p Zp
  iintro ⟨#HI, #HL, Hops, Hx, Hxl, ⟨Hx0, Hx1⟩, Ha, ⟨⟨Hn0, Hn1⟩, Htx⟩, ⟨⟨Ha0, Ha1⟩, Hta⟩, HZx, HZa, HO⟩
  iintro Hk
  ihave Ha := (pt_rows true c fullShare (FF true c) 1 h (h + 1) h1 (Nat.le_succ _)).1 $$ Ha
  icases Ha with ⟨Ha, Hah⟩
  iapply (wp_sendRow LF FF K hF.lands true c r l hr hl h _ (by unfold live; rw [if_pos rfl]; omega) (h + 1) _ hd1
    (owed c (h + 1) (h + 1)) _ (owed_a c (h + 1) h (by omega)) _ Q) $$ [Hah Ha0 Ha1 HO]
  · iframe; iexact HI
  iintro ⟨Hah, Ha0, Ha1, HO⟩
  iapply (wp_waitRow LF FF K false c h _ (by unfold live; rw [if_neg (by decide)]; omega) (h + 1) _ hd1
    (h + 1) (h + 1) (by show 2 * h + 2 + 0 < _; omega) (by show 2 * h + 2 + 0 < _; omega) _ Q) $$ [Hxl Hx0 Hx1 HO]
  · iframe
    isplitl []; · iexact HI
    iexact HL
  iintro ⟨Hxh, Hxn, Hzx0, Hzx1, HO⟩
  rw [hF.fwd c]
  iapply (wp_sendRow LF FF K hF.lands false c r l hr hl (h + 1) _ (by unfold live; rw [if_neg (by decide)]; omega) (h + 2) _ hd2
    (owed c (h + 1 + 1) (h + 1)) _ (owed_x c (h + 1) (h + 1) (by omega)) _ Q) $$ [Hxn Hn0 Hn1 HO]
  · iframe; iexact HI
  iintro ⟨Hxl, Hx0, Hx1, HO⟩
  iapply (wp_loadRow false c (h + 1) _ fullShare.left (FF false c)) $$ Hxl
  iintro Hxl
  iapply (wp_loadOps c (wq c) (kk c) (v c) (wo c)) $$ Hops
  iintro Hops
  iapply (wp_waitRow LF FF K true c h _ (by unfold live; rw [if_pos rfl]; omega) (h + 1) _ hd1
    (h + 1 + 1) (h + 1) (by show 2 * h + 2 + 1 < _; omega) (by show 2 * h + 2 + 1 < _; omega) _ Q) $$ [Hah Ha0 Ha1 HO]
  · iframe
    isplitl []; · iexact HI
    iexact HL
  iintro ⟨Hah, Han, Hza0, Hza1, HO⟩
  iapply (wp_loadRow true c (h + 1) _ fullShare (LF true c)) $$ Han
  iintro Han
  iapply (wp_storeRow true c (h + 1) _ (LF true c) (FF true c) _ (hF.next c h _ h1)) $$ Han
  iintro Han
  iapply Hk
  iframe
  isplitl [Hx Hxh]
  · iapply (pt_rows false c fullShare (FF false c) 0 h (h + 1) (Nat.zero_le _) (Nat.le_succ _)).2
    iframe
  · iapply (pt_rows true c fullShare (FF true c) 1 (h + 1) (h + 1 + 1) (by omega) (Nat.le_succ _)).2
    iframe
    iapply (pt_rows true c fullShare (FF true c) 1 h (h + 1) h1 (Nat.le_succ _)).2
    iframe

/-- The last round. -/
theorem wp_lastRound (c r l : Dev nD) (hr : r = nxt c) (hl : l = prv c) (k : Pr F) (Q : PUnit → sProp 𝕄) :
    iprop(invs LF FF K ∗ levAts L lv ∗ ops c (wq c) (kk c) (v c) (wo c) ∗ St FF c 14)
      ⊢ iprop(((ops c (wq c) (kk c) (v c) (wo c) ∗ St15 FF c) -∗ WP c k Q)
        -∗ WP c (lastRound (Memref.whole cc0_stg1_0) (Memref.whole cc0_stg2_0) (Memref.whole cc0_stg3_0) (Memref.whole cc0_stg4_0)
          (bufM false) (bufW false) (bufM true) (bufW true) (sS false) (sR false) (sS true) (sR true) r l k) Q) := by
  unfold lastRound St St15 T1p
  rw [peel (T0p true c) 14 16 (by omega), peel (T0p true c) (14 + 1) 16 (by omega), push (Zp false c) 0 14 (Nat.zero_le _), push (Zp true c) 1 14 (by decide)]
  unfold T0p Zp
  iintro ⟨#HI, #HL, Hops, Hx, Hxl, ⟨Hx0, Hx1⟩, Ha, -, ⟨⟨Ha0, Ha1⟩, ⟨Hb0, Hb1⟩, -⟩, HZx, HZa, HO⟩
  iintro Hk
  ihave Ha := (pt_rows true c fullShare (FF true c) 1 14 15 (by decide) (by decide)).1 $$ Ha
  icases Ha with ⟨Ha, Hah⟩
  iapply (wp_sendRow LF FF K hF.lands true c r l hr hl 14 _ (by decide) 15 _ (by decide)
    (owed c 15 15) _ (owed_a c 15 14 (by omega)) _ Q) $$ [Hah Ha0 Ha1 HO]
  · iframe; iexact HI
  iintro ⟨Hah, Ha0, Ha1, HO⟩
  iapply (wp_waitRow LF FF K false c 14 _ (by decide) 15 _ (by decide)
    15 15 (by decide) (by decide) _ Q) $$ [Hxl Hx0 Hx1 HO]
  · iframe
    isplitl []; · iexact HI
    iexact HL
  iintro ⟨Hxh, Hxn, Hzx0, Hzx1, HO⟩
  rw [hF.fwd c]
  iapply (wp_loadRow false c 15 _ fullShare (FF false c)) $$ Hxn
  iintro Hxn
  iapply (wp_loadOps c (wq c) (kk c) (v c) (wo c)) $$ Hops
  iintro Hops
  iapply (wp_waitRow LF FF K true c 14 _ (by decide) 15 _ (by decide)
    15 15 (by decide) (by decide) _ Q) $$ [Hah Ha0 Ha1 HO]
  · iframe
    isplitl []; · iexact HI
    iexact HL
  iintro ⟨Hah, Han, Hza0, Hza1, HO⟩
  iapply (wp_loadRow true c 15 _ fullShare (LF true c)) $$ Han
  iintro Han
  iapply (wp_storeRow true c 15 _ (LF true c) (FF true c) _ (hF.next c 14 _ (by decide))) $$ Han
  iintro Han
  iapply Hk
  iframe
  isplitl [Hx Hxh Hxn]
  · iapply (pt_rows false c fullShare (FF false c) 0 15 16 (by decide) (by decide)).2
    iframe
    iapply (pt_rows false c fullShare (FF false c) 0 14 15 (by decide) (by decide)).2
    iframe
  · iapply (pt_rows true c fullShare (FF true c) 1 15 16 (by decide) (by decide)).2
    iframe
    iapply (pt_rows true c fullShare (FF true c) 1 14 15 (by decide) (by decide)).2
    iframe

/-- When a device is done: its buffers are its own again, and the semaphores of its transfers at zero. -/
def Done (c : Dev nD) : sProp 𝕄 :=
  iprop((∃ V, pt false c Finset.univ fullShare V) ∗ (∃ V, pt true c Finset.univ fullShare V)
    ∗ bigSep (Finset.Ico 0 15) (Zp false c) ∗ bigSep (Finset.Ico 1 16) (Zp true c) ∗ owe c 0)

/-- The end: the sums of the device's own rows arrive. -/
theorem wp_epilogue (c r l : Dev nD) (hr : r = nxt c) (hl : l = prv c) (o : Vec F S2x128x512 .f32) (Q : PUnit → sProp 𝕄) :
    iprop(invs LF FF K ∗ levAts L lv ∗ outPt c o ∗ St15 FF c)
      ⊢ iprop(((outPt c (k0_pay1 (k0_pay57 o) (rowOf (LF true c) 0 (by decide))) ∗ Done c) -∗ Q ⟨⟩)
        -∗ WP c (epilogue (Memref.whole cc0_stg7_0) (bufM true) (bufW true) (sS true) (sR true) r l) Q) := by
  unfold epilogue St15 Done
  rw [push (Zp true c) 1 15 (by decide)]
  unfold T0p Zp
  iintro ⟨#HI, #HL, Hout, Hx, Ha, ⟨Ha0, Ha1⟩, HZx, HZa, HO⟩
  iintro Hk
  ihave Ha := (pt_rows true c fullShare (FF true c) 1 15 16 (by decide) (by decide)).1 $$ Ha
  icases Ha with ⟨Ha, Hah⟩
  iapply (wp_sendRow LF FF K hF.lands true c r l hr hl 15 _ (by decide) 0 _ (by decide)
    (owed c 15 16) _ (owed_a c 15 15 (by omega)) _ Q) $$ [Hah Ha0 Ha1 HO]
  · iframe; iexact HI
  iintro ⟨Hah, Ha0, Ha1, HO⟩
  iapply (wp_waitRow LF FF K true c 15 _ (by decide) 0 _ (by decide)
    16 16 (by decide) (by decide) _ Q) $$ [Hah Ha0 Ha1 HO]
  · rw [show owed c 16 16 = owed c 15 16 from by unfold owed; rfl]
    iframe
    isplitl []; · iexact HI
    iexact HL
  iintro ⟨Hah, Han, Hza0, Hza1, HO⟩
  iapply (wp_loadOut c o) $$ Hout
  iintro Hout
  iapply (wp_loadRow true c 0 _ fullShare (LF true c)) $$ Han
  iintro Han
  iapply (wp_storeOut c o) $$ Hout
  iintro Hout
  unfold WP
  rw [wp_ret]; imodintro
  iapply Hk
  rw [show owed c 16 16 = 0 from (by unfold owed; rfl : owed c 16 16 = owed c 15 16).trans (owed_nil c)]
  iframe
  isplitl [Hx]
  · iexists _
    rw [← rows_all]
    iexact Hx
  · iexists (fun i => if (i 0).val = 0 then LF true c i else FF true c i)
    rw [← rows_all]
    iapply (pt_rows true c fullShare _ 0 1 16 (by decide) (by decide)).2
    isplitl [Han]
    · iapply (Entails.of_eq (pt_congr true c (rows 0 (0 + 1)) fullShare (LF true c) _ ?_)) $$ Han
      intro i hi
      unfold rows at hi
      have := (Finset.mem_filter.mp hi).2
      exact (if_pos (by omega)).symm
    · iapply (Entails.of_eq (pt_congr true c (rows 1 16) fullShare (FF true c) _ ?_))
      · intro i hi
        unfold rows at hi
        have := (Finset.mem_filter.mp hi).2
        exact (if_neg (by omega)).symm
      · iapply (pt_rows true c fullShare (FF true c) 1 15 16 (by decide) (by decide)).2
        iframe

/-- The rounds from `13 - n + 1` on. -/
theorem wp_tail (c r l : Dev nD) (hr : r = nxt c) (hl : l = prv c) (o : Vec F S2x128x512 .f32) (Q : PUnit → sProp 𝕄) : ∀ (n : ℕ) (hn : n < 14),
    iprop(invs LF FF K ∗ levAts L lv ∗ ops c (wq c) (kk c) (v c) (wo c) ∗ outPt c o ∗ St FF c (14 - n))
      ⊢ iprop(((ops c (wq c) (kk c) (v c) (wo c) ∗ outPt c (k0_pay1 (k0_pay57 o) (rowOf (LF true c) 0 (by decide))) ∗ Done c) -∗ Q ⟨⟩)
        -∗ WP c (tail (Memref.whole cc0_stg1_0) (Memref.whole cc0_stg2_0) (Memref.whole cc0_stg3_0) (Memref.whole cc0_stg4_0) (Memref.whole cc0_stg7_0)
          (bufM false) (bufW false) (bufM true) (bufW true) (sS false) (sR false) (sS true) (sR true) r l n hn) Q)
  | 0, hn => by
    unfold tail
    iintro ⟨#HI, #HL, Hops, Hout, HS⟩ Hk
    iapply (wp_lastRound LF FF K x wq kk v wo hF c r l hr hl _ Q) $$ [Hops HS]
    · iframe
      isplitl []; · iexact HI
      iexact HL
    iintro ⟨Hops, HS⟩
    iapply (wp_epilogue LF FF K x wq kk v wo hF c r l hr hl o Q) $$ [Hout HS]
    · iframe
      isplitl []; · iexact HI
      iexact HL
    iintro ⟨Hout, HD⟩
    iapply Hk
    iframe
  | n + 1, hn => by
    unfold tail
    iintro ⟨#HI, #HL, Hops, Hout, HS⟩ Hk
    rw [show 14 - (n + 1) = 13 - n from by omega]
    iapply (wp_midRound LF FF K x wq kk v wo hF c r l hr hl (13 - n) (by omega) _ _ Q) $$ [Hops HS]
    · iframe
      isplitl []; · iexact HI
      iexact HL
    iintro ⟨Hops, HS⟩
    rw [show 13 - n + 1 = 14 - n from by omega]
    iapply (wp_tail c r l hr hl o Q n _) $$ [Hops Hout HS]
    · iframe
      isplitl []; · iexact HI
      iexact HL
    iexact Hk

/-- Before the first round: row 0 of `x` is on its way out. -/
def St0 (c : Dev nD) : sProp 𝕄 :=
  iprop(pt false c (rows 0 1) fullShare.left (FF false c) ∗ T1p false c 0 ∗ (∃ V, pt true c (rows 1 2) fullShare V)
    ∗ bigSep (Finset.Ico 1 15) (T0p false c) ∗ bigSep (Finset.Ico 1 16) (T0p true c) ∗ owe c (owed c 1 1))

/-- The first round. -/
theorem wp_firstRound (c r l : Dev nD) (hr : r = nxt c) (hl : l = prv c) (k : Pr F) (Q : PUnit → sProp 𝕄) :
    iprop(invs LF FF K ∗ levAts L lv ∗ ops c (wq c) (kk c) (v c) (wo c) ∗ St0 FF c)
      ⊢ iprop(((ops c (wq c) (kk c) (v c) (wo c) ∗ St FF c 1) -∗ WP c k Q)
        -∗ WP c (firstRound (Memref.whole cc0_stg1_0) (Memref.whole cc0_stg2_0) (Memref.whole cc0_stg3_0) (Memref.whole cc0_stg4_0)
          (bufM false) (bufW false) (bufM true) (bufW true) (sS false) (sR false) r l k) Q) := by
  unfold firstRound St0 St T1p
  rw [peel (T0p false c) 1 15 (by omega), push (Zp false c) 0 0 (Nat.zero_le _), Finset.Ico_self 0, Finset.Ico_self 1, bigSep_empty, bigSep_empty]
  unfold T0p Zp
  iintro ⟨#HI, #HL, Hops, Hxl, ⟨Hx0, Hx1⟩, ⟨%V, Ha⟩, ⟨⟨Hn0, Hn1⟩, Htx⟩, Hta, HO⟩
  iintro Hk
  iapply (wp_waitRow LF FF K false c 0 _ (by decide) 1 _ (by decide)
    1 1 (by decide) (by decide) _ Q) $$ [Hxl Hx0 Hx1 HO]
  · iframe
    isplitl []; · iexact HI
    iexact HL
  iintro ⟨Hxh, Hxn, Hzx0, Hzx1, HO⟩
  rw [hF.fwd c]
  iapply (wp_sendRow LF FF K hF.lands false c r l hr hl 1 _ (by decide) 2 _ (by decide)
    (owed c 2 1) _ (owed_x c 1 1 (by omega)) _ Q) $$ [Hxn Hn0 Hn1 HO]
  · iframe; iexact HI
  iintro ⟨Hxl, Hx0, Hx1, HO⟩
  iapply (wp_loadRow false c 1 _ fullShare.left (FF false c)) $$ Hxl
  iintro Hxl
  iapply (wp_loadOps c (wq c) (kk c) (v c) (wo c)) $$ Hops
  iintro Hops
  iapply (wp_storeRow true c 1 _ V (FF true c) _ (hF.first c)) $$ Ha
  iintro Ha
  iapply Hk
  iframe
  isplitl [] <;> iempintro

/-! ## The opening -/

omit hF
/-- The slots two transfers of a device are sent into, and the two receive cells. -/
def slotp (q : Bool) (c : Dev nD) (h : ℕ) : sProp 𝕄 := iprop(slotAny q c (dst h) 0 ∗ slotAny q c (dst h) 1)
def rchp (q : Bool) (c : Dev nD) (h : ℕ) : sProp 𝕄 := iprop(reached ER (rCell q c h 0) 0 ∗ reached ER (rCell q c h 1) 0)
def ownp (q : Bool) (c : Dev nD) (h : ℕ) : sProp 𝕄 := iprop(own q c h 0 ∗ own q c h 1)

omit [FloatOps F] in
theorem slots_of_rows (q : Bool) (c : Dev nD) (V : Rows F) (i : ℕ) : ∀ n, i + n ≤ 15 →
    (pt q c (rows (i + 1) (i + n + 1)) fullShare V ⊢ bigSep (Finset.Ico i (i + n)) (slotp q c))
  | 0, _ => by
    rw [show Finset.Ico i (i + 0) = ∅ from Finset.Ico_self i, bigSep_empty]; iintro -; iempintro
  | n + 1, hn => by
    rw [show i + (n + 1) = i + n + 1 from rfl, push (slotp q c) i (i + n) (by omega)]
    unfold slotp slotAny
    rw [show dst (i + n) = i + n + 1 from Nat.mod_eq_of_lt (by omega)]
    iintro H
    ihave H := (pt_rows q c fullShare V (i + 1) (i + n + 1) (i + n + 1 + 1) (by omega) (by omega)).1 $$ H
    icases H with ⟨H, Hn⟩
    ihave Hn := (pt_row q c fullShare V (i + n + 1)).1 $$ Hn
    icases Hn with ⟨H0, H1⟩
    isplitl [H0 H1]
    · isplitl [H0]
      · iexists V; iexact H0
      · iexists V; iexact H1
    · iapply (slots_of_rows q c V i n (by omega)); iexact H

omit [FloatOps F] in
theorem swap (S : Finset ℕ) (A0 A1 R0 R1 : ℕ → sProp 𝕄) :
    iprop(bigSep S (fun h => iprop(A0 h ∗ A1 h)) ∗ bigSep S (fun h => iprop(R0 h ∗ R1 h)))
      ⊢ iprop(bigSep S (fun h => iprop(A0 h ∗ R0 h)) ∗ bigSep S (fun h => iprop(A1 h ∗ R1 h))) := by
  rw [bigSep_sep', bigSep_sep', bigSep_sep', bigSep_sep']
  iintro ⟨⟨H1, H2⟩, H3, H4⟩
  iframe

omit [FloatOps F] in
/-- What `c` hands its two neighbours. -/
theorem give (c : Dev nD) (V V' : Rows F) :
    iprop(pt false c (rows 1 16) fullShare V ∗ pt true c (rows 2 16) fullShare V' ∗ pt true c (rows 0 1) fullShare V' ∗ both fun q h => rchp q c h)
      ⊢ iprop(barPay (prv c) 0 ∗ barPay (nxt c) 1) := by
  unfold both barPay both
  rw [show peer 0 (prv c) = c from nxt_prv c, show peer 1 (nxt c) = c from prv_nxt c]
  iintro ⟨Hx, Ha, Ha0, Hrx, Hra⟩
  ihave Hx := slots_of_rows false c V 0 15 (by decide) $$ Hx
  ihave Ha := slots_of_rows true c V' 1 14 (by decide) $$ Ha
  ihave Ha0 := (pt_row true c fullShare V' 0).1 $$ Ha0
  icases Ha0 with ⟨Ha0, Ha1⟩
  ihave Hx := swap (Finset.Ico 0 15) (fun h => slotAny false c (dst h) 0) (fun h => slotAny false c (dst h) 1)
    (fun h => reached ER (rCell false c h 0) 0) (fun h => reached ER (rCell false c h 1) 0) $$ [Hx Hrx]
  · isplitl [Hx]
    · iexact Hx
    · iexact Hrx
  ihave Ha := swap (Finset.Ico 1 16) (fun h => slotAny true c (dst h) 0) (fun h => slotAny true c (dst h) 1)
    (fun h => reached ER (rCell true c h 0) 0) (fun h => reached ER (rCell true c h 1) 0) $$ [Ha Ha0 Ha1 Hra]
  · isplitl [Ha Ha0 Ha1]
    · iapply (Entails.of_eq (push (slotp true c) 1 15 (by decide)).symm)
      isplitl [Ha0 Ha1]
      · unfold slotp slotAny
        isplitl [Ha0]
        · iexists V'; iexact Ha0
        · iexists V'; iexact Ha1
      · iexact Ha
    · iexact Hra
  icases Hx with ⟨Hx0, Hx1⟩
  icases Ha with ⟨Ha0, Ha1⟩
  isplitl [Hx0 Ha0]
  · isplitl [Hx0]
    · iexact Hx0
    · iexact Ha0
  · isplitl [Hx1]
    · iexact Hx1
    · iexact Ha1

omit [FloatOps F] in
theorem take1 (S : Finset ℕ) (q : Bool) (c : Dev nD) :
    iprop(bigSep S (fun h => iprop(slotAny q (peer 0 c) (dst h) 0 ∗ reached ER (rCell q (peer 0 c) h 0) 0))
        ∗ bigSep S (fun h => iprop(slotAny q (peer 1 c) (dst h) 1 ∗ reached ER (rCell q (peer 1 c) h 1) 0)) ∗ bigSep S (ownp q c))
      ⊢ (bigSep S (T0p q c) : sProp 𝕄) := by
  rw [show (T0p q c : ℕ → sProp 𝕄) = fun h => iprop(T0 q c h 0 ∗ T0 q c h 1) from rfl, show (ownp q c : ℕ → sProp 𝕄) = fun h => iprop(own q c h 0 ∗ own q c h 1) from rfl,
    bigSep_sep' S (fun h => T0 q c h 0), bigSep_sep' S (fun h => own q c h 0)]
  unfold T0
  rw [bigSep_sep' S (fun h => iprop(slotAny q (peer 0 c) (dst h) 0 ∗ reached ER (rCell q (peer 0 c) h 0) 0)) (fun h => own q c h 0),
    bigSep_sep' S (fun h => iprop(slotAny q (peer 1 c) (dst h) 1 ∗ reached ER (rCell q (peer 1 c) h 1) 0)) (fun h => own q c h 1)]
  iintro ⟨H0, H1, H2, H3⟩
  iframe

omit [FloatOps F] in
/-- What `c` is handed by them. -/
theorem take (c : Dev nD) :
    iprop((barPay c 0 ∗ barPay c 1) ∗ both fun q h => ownp q c h)
      ⊢ (iprop(bigSep (Finset.Ico 0 15) (T0p false c) ∗ bigSep (Finset.Ico 1 16) (T0p true c)) : sProp 𝕄) := by
  unfold both barPay both
  iintro ⟨⟨⟨Hx0, Ha0⟩, Hx1, Ha1⟩, Hox, Hoa⟩
  isplitl [Hx0 Hx1 Hox]
  · iapply (take1 (Finset.Ico 0 15) false c)
    isplitl [Hx0]
    · iexact Hx0
    isplitl [Hx1]
    · iexact Hx1
    iexact Hox
  · iapply (take1 (Finset.Ico 1 16) true c)
    isplitl [Ha0]
    · iexact Ha0
    isplitl [Ha1]
    · iexact Ha1
    iexact Hoa

/-- What a device has of the protocol at the start. -/
def Begin (c : Dev nD) : sProp 𝕄 :=
  iprop((both fun q h => ownp q c h) ∗ (both fun q h => rchp q c h)
    ∗ dutyTok ER (barCell (prv c)) 0 0 ∗ dutyTok ER (barCell (nxt c)) 0 1 ∗ atPos ER (barCell c) 0 ∅ 0 ∗ cred (tallyAt (barCell c) () 2))

include hF
/-- The opening: both neighbours have started, the device's own rows leave, and its own partial is kept. -/
theorem wp_opening (c r l : Dev nD) (hr : r = nxt c) (hl : l = prv c) (V V' : Rows F) (o : Vec F S2x128x512 .f32) (k : Pr F) (Q : PUnit → sProp 𝕄) :
    iprop(invs LF FF K ∗ levAts L lv ∗ xPt c (x c) ∗ ops c (wq c) (kk c) (v c) (wo c) ∗ outPt c o
        ∗ pt false c Finset.univ fullShare V ∗ pt true c Finset.univ fullShare V' ∗ Begin c ∗ owe c (O₀ c))
      ⊢ iprop(((xPt c (x c) ∗ ops c (wq c) (kk c) (v c) (wo c) ∗ outPt c (partF (x c) (wq c) (kk c) (v c) (wo c)) ∗ semVal (barCell c) 0 ∗ St0 FF c) -∗ WP c k Q)
        -∗ WP c (opening (Memref.whole cc0_stg0_0) (Memref.whole cc0_stg1_0) (Memref.whole cc0_stg2_0) (Memref.whole cc0_stg3_0) (Memref.whole cc0_stg4_0) (Memref.whole cc0_stg7_0)
          (bufM false) (bufW false) (sS false) (sR false) r l k) Q) := by
  subst hr hl
  unfold opening Begin owe
  rw [← rows_all]
  iintro ⟨#HI, #HL, Hx, Hops, Hout, Hb, Ha, ⟨Hown, Hrch, Htp, Htn, Hat, Hc⟩, %W, HO⟩
  iintro Hk
  ihave #HIp := inv_bar LF FF K (prv c) $$ HI
  ihave #HIn := inv_bar LF FF K (nxt c) $$ HI
  ihave #HIc := inv_bar LF FF K c $$ HI
  ihave #Hrp := reached_bar LF FF K (prv c) $$ HI
  ihave #Hrn := reached_bar LF FF K (nxt c) $$ HI
  ihave Hb := (pt_rows false c fullShare V 0 1 16 (by decide) (by decide)).1 $$ Hb
  icases Hb with ⟨Hb0, Hb⟩
  ihave Ha := (pt_rows true c fullShare V' 0 1 16 (by decide) (by decide)).1 $$ Ha
  icases Ha with ⟨Ha0, Ha⟩
  ihave Ha := (pt_rows true c fullShare V' 1 2 16 (by decide) (by decide)).1 $$ Ha
  icases Ha with ⟨Ha1, Ha⟩
  ihave Hg := give c V V' $$ [Hb Ha Ha0 Hrch]
  · iframe
  icases Hg with ⟨Hgp, Hgn⟩
  iapply (Rounds.wp_signal 𝒱₀ ER (Rd LF FF) (c : Thread nD τ) none (dst := (prv c : Thread nD τ)) (κ := K (barCell (prv c)))
      (d := 0) (by rw [duties_bar]; exact Finset.mem_univ _) ((amount_bar LF FF (prv c) 0).trans (by decide)) () (owed c 0 1 + tallyAt (barCell (nxt c)) () 1) rfl)
    $$ [HO Htp Hgp]
  · isplitr; · iexact HIp
    isplitl [HO]; · iexact HO
    isplitl [Htp]; · iexact Htp
    isplitl [Hgp]; · rw [payload_bar]; iexact Hgp
    iexact Hrp
  iintro HO
  iapply (Rounds.wp_signal 𝒱₀ ER (Rd LF FF) (c : Thread nD τ) none (dst := (nxt c : Thread nD τ)) (κ := K (barCell (nxt c)))
      (d := 1) (by rw [duties_bar]; exact Finset.mem_univ _) ((amount_bar LF FF (nxt c) 1).trans (by decide)) () (owed c 0 1) rfl)
    $$ [HO Htn Hgn]
  · isplitr; · iexact HIn
    isplitl [HO]; · iexact HO
    isplitl [Htn]; · iexact Htn
    isplitl [Hgn]; · rw [payload_bar]; iexact Hgn
    iexact Hrn
  iintro HO
  iapply (Rounds.wp_wait_rest_token 𝒱₀ ER (Rd LF FF) (c : Thread nD τ) none (κ := K (barCell c))
      (wpE_semWait_eq 𝒱₀ (c : Thread nD τ) none Set.univ) (Set.mem_univ _) () (O := owed c 0 1) (R := 0) (m := 0) (T := ∅)
      (by rw [Nat.zero_add, expect_bar]; rfl)) $$ [Hc HO Hat]
  · isplitr; · iexact HIc
    isplitl [Hc]; · iexact Hc
    isplitl [HO]; · iexact HO
    isplitr
    · iapply (mayWait c (.reg (sig.barrier 0 rfl)) 0 1 1 (le_refl _) (by decide) (by decide)); iexact HL
    iexact Hat
  iintro ⟨HO, Hat, -, Hpay⟩
  ihave Hpay := Entails.of_eq (rest_bar LF FF c) $$ Hpay
  ihave Ht := take c $$ [Hpay Hown]
  · isplitl [Hpay]
    · iexact Hpay
    · iexact Hown
  rw [peel (T0p false c) 0 15 (by decide)]
  icases Ht with ⟨⟨Ht, Htx⟩, Hta⟩
  unfold T0p
  icases Ht with ⟨Ht0, Ht1⟩
  iapply (fupd_wp)
  imod (Rounds.cell_close ER (Rd LF FF) (Set.mem_univ (K (barCell c))) (fun h => h) (R := 0 + 1) (duties_later LF FF _)) $$ [Hat] with Hz
  · isplitr; · iexact HIc
    iexact Hat
  imodintro
  iapply (wp_loadX c (x c)) $$ Hx
  iintro Hx
  iapply (wp_storeRow false c 0 _ V (FF false c) _ (hF.start c)) $$ Hb0
  iintro Hb0
  iapply (wp_sendRow LF FF K hF.lands false c _ _ rfl rfl 0 _ (by decide) 1 _ (by decide)
    (owed c 1 1) _ (owed_x c 0 1 (by decide)) _ Q) $$ [Hb0 Ht0 Ht1 HO]
  · iframe
    isplitr; · iexact HI
    unfold owe
    iexists _; iexact HO
  iintro ⟨Hb0, Ht0, Ht1, HO⟩
  iapply (wp_loadX c (x c)) $$ Hx
  iintro Hx
  iapply (wp_loadOps c (wq c) (kk c) (v c) (wo c)) $$ Hops
  iintro Hops
  iapply (wp_storeOut c o) $$ Hout
  iintro Hout
  iapply Hk
  unfold St0 T1p T0p
  iframe
  iexists V'
  iexact Ha1

end Rounds

end Cert.KernelIdeal.Ring16

end
-- ==== Proof.Contents.lean ====
/- What the buffers of a run hold, row by row.

   Row `n` of the buffer of `x` on device `c` is the block of the device `n` places back round the ring (of the second
   batch, `n` places ahead). Row `n + 1` of the sums is the sum of the `n + 1` partials made of one such block by the
   devices it has passed. -/
module

public import proofs.«01_k».proof.Proof.Body
public import Idealize.ShloMosaic.Lib.Pipeline.ValueKit.Geometry

@[expose] public section

noncomputable section

namespace Cert.KernelIdeal.Ring16

open Cert.KernelIdeal.Gen
open Idealize.ShloMosaic

variable {F : FTy → Type} [FloatOps F]

/-- The device `n` places behind `c` in the direction batch `b` travels. -/
def rot (b : Fin 2) (n : ℕ) (c : Dev nD) : Dev nD := (from' b)^[n] c

theorem rot_peer (b : Fin 2) (n : ℕ) (c : Dev nD) : rot b (n + 1) (peer b c) = rot b n c := by
  unfold rot; rw [Function.iterate_succ_apply, from_peer]

/-- An element's place in its row. -/
def inRow (i : S16x2x128x512.Idx) : S1x2x128x512.Idx := fun a => ⟨if a = 0 then 0 else (i a).val, by
  have h := (i a).isLt
  fin_cases a
  · exact Nat.one_pos
  · exact h
  · exact h
  · exact h⟩

theorem rowR_zero (h : ℕ) (hh : h < 16) (y : S1x2x128x512.Idx) : ((rowR h hh).emb y 0 : ℕ) = h := by
  have h0 : (y 0 : ℕ) < 1 := (y 0).isLt
  refine (ValueKit.rect_emb_unit_val (s := S16x2x128x512) ![h, 0, 0, 0] S1x2x128x512.size (inbRow h hh) y 0).trans ?_
  show h + (y 0 : ℕ) = h; omega
theorem rowR_one (h : ℕ) (hh : h < 16) (y : S1x2x128x512.Idx) : ((rowR h hh).emb y 1 : Fin 2) = y 1 := by
  apply Fin.ext
  refine (ValueKit.rect_emb_unit_val (s := S16x2x128x512) ![h, 0, 0, 0] S1x2x128x512.size (inbRow h hh) y 1).trans ?_
  exact Nat.zero_add _
theorem inRow_rowR (h : ℕ) (hh : h < 16) (y : S1x2x128x512.Idx) : inRow ((rowR h hh).emb y) = y := by
  funext a; apply Fin.ext
  have h0 : (y 0 : ℕ) < 1 := (y 0).isLt
  show (if a = 0 then 0 else ((rowR h hh).emb y a : ℕ)) = (y a : ℕ)
  rw [show ((rowR h hh).emb y a : ℕ) = _ from ValueKit.rect_emb_unit_val (s := S16x2x128x512) ![h, 0, 0, 0] S1x2x128x512.size (inbRow h hh) y a]
  fin_cases a
  · show 0 = (y 0 : ℕ); omega
  · exact Nat.zero_add _
  · exact Nat.zero_add _
  · exact Nat.zero_add _

theorem slotR_zero (h : ℕ) (b : Fin 2) (hh : h < 16) (y : S1x1x128x512.Idx) : ((slotR h b.val hh b.2).emb y 0 : ℕ) = h := by
  have h0 : (y 0 : ℕ) < 1 := (y 0).isLt
  refine (ValueKit.rect_emb_unit_val (s := S16x2x128x512) ![h, b.val, 0, 0] S1x1x128x512.size (inbSlot h b.val hh b.2) y 0).trans ?_
  show h + (y 0 : ℕ) = h; omega
theorem slotR_one (h : ℕ) (b : Fin 2) (hh : h < 16) (y : S1x1x128x512.Idx) : ((slotR h b.val hh b.2).emb y 1 : Fin 2) = b := by
  apply Fin.ext
  have h0 : (y 1 : ℕ) < 1 := (y 1).isLt
  refine (ValueKit.rect_emb_unit_val (s := S16x2x128x512) ![h, b.val, 0, 0] S1x1x128x512.size (inbSlot h b.val hh b.2) y 1).trans ?_
  show b.val + (y 1 : ℕ) = b.val; omega
theorem inRow_slotR (h h' : ℕ) (b : Fin 2) (hh : h < 16) (hh' : h' < 16) (y : S1x1x128x512.Idx) :
    inRow ((slotR h b.val hh b.2).emb y) = inRow ((slotR h' b.val hh' b.2).emb y) := by
  funext a; apply Fin.ext
  show (if a = 0 then 0 else ((slotR h b.val hh b.2).emb y a : ℕ)) = (if a = 0 then 0 else ((slotR h' b.val hh' b.2).emb y a : ℕ))
  rw [show ((slotR h b.val hh b.2).emb y a : ℕ) = _ from ValueKit.rect_emb_unit_val (s := S16x2x128x512) ![h, b.val, 0, 0] S1x1x128x512.size (inbSlot h b.val hh b.2) y a,
    show ((slotR h' b.val hh' b.2).emb y a : ℕ) = _ from ValueKit.rect_emb_unit_val (s := S16x2x128x512) ![h', b.val, 0, 0] S1x1x128x512.size (inbSlot h' b.val hh' b.2) y a]
  fin_cases a <;> rfl

variable (x : Dev nD → Vec F S2x128x512 .bf16) (wq : Dev nD → Vec F S512x512 .bf16) (kk v : Dev nD → Vec F S16x128x64 .bf16)
  (wo : Dev nD → Vec F S512x512 .bf16)

/-- Row `n` of the buffer of `x`; -/
def rowX (n : ℕ) (c : Dev nD) : Vec F S1x2x128x512 .bf16 := fun y => k0_pay2 (x (rot (y 1) n c)) y
/-- row `n + 1` of the sums. -/
def sums : ℕ → Dev nD → Vec F S1x2x128x512 .bf16
  | 0, c => shapeCast S1x2x128x512 (partB (rowX x 1 c) (wq c) (kk c) (v c) (wo c)) shapeCasts_S2x128x512_S1x2x128x512
  | n + 1, c => accB (partB (rowX x (n + 2) c) (wq c) (kk c) (v c) (wo c)) fun y => sums n (from' (y 1) c) y

/-- What a buffer holds when its rows are sent on, -/
def FF (q : Bool) (c : Dev nD) : Rows F := fun i => match q with
  | false => rowX x (i 0).val c (inRow i)
  | true => sums x wq kk v wo ((i 0).val - 1) c (inRow i)
/-- and what lands in it. -/
def LF (q : Bool) (c : Dev nD) : Rows F := fun i => match q with
  | false => rowX x (i 0).val c (inRow i)
  | true => sums x wq kk v wo (((i 0).val + 14) % 16) (from' (i 1) c) (inRow i)

theorem inRow_one (i : S16x2x128x512.Idx) : (inRow i 1 : Fin 2) = i 1 := rfl

theorem row_F (c : Dev nD) (h : ℕ) (hh : h < 16) : rowOf (FF x wq kk v wo false c) h hh = rowX x h c := by
  funext y
  show rowX x ((rowR h hh).emb y 0).val c (inRow ((rowR h hh).emb y)) = _
  rw [rowR_zero, inRow_rowR]
theorem row_S (c : Dev nD) (h : ℕ) (hh : h < 16) : rowOf (FF x wq kk v wo true c) h hh = sums x wq kk v wo (h - 1) c := by
  funext y
  show sums x wq kk v wo (((rowR h hh).emb y 0).val - 1) c (inRow ((rowR h hh).emb y)) = _
  rw [rowR_zero, inRow_rowR]
theorem row_L (c : Dev nD) (h : ℕ) (hh : h < 16) :
    rowOf (LF x wq kk v wo true c) h hh = fun y => sums x wq kk v wo ((h + 14) % 16) (from' (y 1) c) y := by
  funext y
  show sums x wq kk v wo ((((rowR h hh).emb y 0).val + 14) % 16) (from' ((rowR h hh).emb y 1) c) (inRow ((rowR h hh).emb y)) = _
  rw [rowR_zero, inRow_rowR, rowR_one]

theorem flow : Flow (LF x wq kk v wo) (FF x wq kk v wo) x wq kk v wo where
  lands q c h hl b y := by
    have hh := hl.lt
    cases q
    · show rowX x ((slotR (dst h) b.val (dst_lt h) b.2).emb y 0).val (peer b c) (inRow ((slotR (dst h) b.val (dst_lt h) b.2).emb y))
        = rowX x ((slotR h b.val hl.lt b.2).emb y 0).val c (inRow ((slotR h b.val hl.lt b.2).emb y))
      rw [slotR_zero, slotR_zero, inRow_slotR (dst h) h b (dst_lt h) hl.lt y]
      unfold rowX
      rw [inRow_one, slotR_one]
      have hd : dst h = h + 1 := by unfold dst; unfold live at hl; simp at hl; omega
      rw [hd, rot_peer]
    · show sums x wq kk v wo ((((slotR (dst h) b.val (dst_lt h) b.2).emb y 0).val + 14) % 16) (from' ((slotR (dst h) b.val (dst_lt h) b.2).emb y 1) (peer b c)) (inRow ((slotR (dst h) b.val (dst_lt h) b.2).emb y))
        = sums x wq kk v wo (((slotR h b.val hl.lt b.2).emb y 0).val - 1) c (inRow ((slotR h b.val hl.lt b.2).emb y))
      rw [slotR_zero, slotR_zero, inRow_slotR (dst h) h b (dst_lt h) hl.lt y, slotR_one, from_peer]
      have hd : (dst h + 14) % 16 = h - 1 := by unfold dst; unfold live at hl; simp at hl; omega
      rw [hd]
  fwd c := rfl
  start c := by rw [row_F]; rfl
  first c := by rw [row_S, row_F]; rfl
  next c h hh h1 := by
    rw [row_S, row_F, row_L]
    obtain ⟨n, rfl⟩ : ∃ n, h = n + 1 := ⟨h - 1, by omega⟩
    rw [show n + 1 + 1 - 1 = n + 1 from rfl, show (n + 1 + 1 + 14) % 16 = n by omega]
    rfl

end Cert.KernelIdeal.Ring16
-- ==== Proof.Region.lean ====
/- The kernel's region: what it is entered with and left with, and its body's run between the two. -/
module

public import proofs.«01_k».proof.Proof.BodyEq
public import proofs.«01_k».proof.Proof.Contents
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk

@[expose] public section

noncomputable section

namespace Cert.KernelIdeal.Ring16

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The region's semaphores -/

/-- The transfers of one device. -/
abbrev I : Type := Bool × Fin 15 × Fin 2
abbrev osem (j : J) : SemLoc sig := .dma (dsem (jIdx j))

theorem jIdx_ge (j : J) : 8 ≤ jIdx j := by
  obtain ⟨d, q, i, b⟩ := j
  cases d
  · show 8 ≤ sIdx _ _ _; unfold sIdx; omega
  · show 8 ≤ rIdx _ _ _; unfold rIdx; omega
theorem dma_scoped : ∀ s : DmaSem sig, (SemLoc.dma s : SemLoc sig).isScoped .tc = true := by decide
theorem stage_sem : ∀ (w : Fin 8) (s : Fin (spec0 w).nbuf), ((spec0 w).sem s).val < 8 := by decide
theorem osem_facts : Pipeline.OwnSemFacts spec0 osem where
  isScoped j := dma_scoped _
  inj j j' h := (jCell_inj (0 : Dev nD) (0 : Dev nD) j j' (Prod.ext rfl h)).2
  disj j w s h := by
    have h1 : dsem (jIdx j) = (spec0 w).sem s := SemLoc.dma.inj h
    have h2 : jIdx j % 136 = ((spec0 w).sem s).val := congrArg Fin.val h1
    rw [Nat.mod_eq_of_lt (jIdx_lt j)] at h2
    have := stage_sem w s
    have := jIdx_ge j
    omega

omit [FloatOps F] in
theorem bigSep_two (Φ : Bool → sProp 𝕄) : bigSep Finset.univ Φ = iprop(Φ false ∗ Φ true) := by
  rw [show (Finset.univ : Finset Bool) = {false, true} by decide, bigSep_insert (by decide), bigSep_singleton]; rfl
omit [FloatOps F] in
theorem bigSep_rows (f : ℕ → sProp 𝕄) (n : ℕ) : bigSep (Finset.Ico n (15 + n)) f = bigSep Finset.univ fun i : Fin 15 => f (i.val + n) := by
  have h : Finset.Ico n (15 + n) = (Finset.univ : Finset (Fin 15)).map ⟨fun i => i.val + n, fun i j h => Fin.ext (Nat.add_right_cancel h)⟩ := by
    ext k
    simp only [Finset.mem_Ico, Finset.mem_map, Finset.mem_univ, true_and, Function.Embedding.coeFn_mk]
    constructor
    · rintro ⟨h1, h2⟩; exact ⟨⟨k - n, by omega⟩, by show k - n + n = k; omega⟩
    · rintro ⟨i, rfl⟩; have := i.isLt
      exact ⟨Nat.le_add_left _ _, Nat.add_lt_add_right this n⟩
  rw [h, bigSep_map]; rfl
omit [FloatOps F] in
/-- Over the two batches of every row sent. -/
theorem both_I (f : Bool → ℕ → Fin 2 → sProp 𝕄) :
    both (fun q h => iprop(f q h 0 ∗ f q h 1)) = bigSep Finset.univ fun p : I => f p.1 (jrow p.1 p.2.1) p.2.2 := by
  have h (q : Bool) (n : ℕ) (hn : n = q.toNat) : bigSep (Finset.Ico n (15 + n)) (fun h => iprop(f q h 0 ∗ f q h 1))
      = bigSep Finset.univ fun p : Fin 15 × Fin 2 => f q (jrow q p.1) p.2 := by
    subst hn
    rw [bigSep_rows, bigSep_univ_prod]
    exact bigSep_congr fun i _ => (BI.bigSep_fin_two fun b : Fin 2 => f q (jrow q i) b).symm
  unfold both
  rw [bigSep_univ_prod, bigSep_two]
  exact congrArg₂ (fun a b => iprop(a ∗ b)) (h false 0 rfl) (h true 1 rfl)
omit [FloatOps F] in
/-- Over the semaphores, by their transfers. -/
theorem bigSep_J (f : J → sProp 𝕄) :
    bigSep Finset.univ f = bigSep Finset.univ fun p : I => iprop(f (false, p) ∗ f (true, p)) := by
  rw [bigSep_univ_prod, bigSep_two, bigSep_sep']

/-! ## What a device is given -/

variable (m : (ℓ : Loc nD τ sig) → Buf (Elt F) ℓ)

/-- What the region finds in its arrays: -/
def xOf (c : Dev nD) : Vec F S2x128x512 .bf16 := V1 m c main_arg0
def wqOf (c : Dev nD) : Vec F S512x512 .bf16 := V1 m c main_v20
def kOf (c : Dev nD) : Vec F S16x128x64 .bf16 := V1 m c main_v11
def vOf (c : Dev nD) : Vec F S16x128x64 .bf16 := V1 m c main_v18
def woOf (c : Dev nD) : Vec F S512x512 .bf16 := V1 m c main_arg4
/-- among them its neighbours' numbers. -/
def nOf (c : Dev nD) : main_v26.ty.Contents (Elt F) := V1 m c main_v26
def pOf (c : Dev nD) : main_v32.ty.Contents (Elt F) := V1 m c main_v32

abbrev LFm : Bool → Dev nD → Rows F := LF (xOf m) (wqOf m) (kOf m) (vOf m) (woOf m)
abbrev FFm : Bool → Dev nD → Rows F := FF (xOf m) (wqOf m) (kOf m) (vOf m) (woOf m)

/-- What the region leaves in its result. -/
def outOf (c : Dev nD) : Vec F S2x128x512 .f32 :=
  k0_pay1 (k0_pay57 (partF (xOf m c) (wqOf m c) (kOf m c) (vOf m c) (woOf m c))) (rowOf (LFm m true c) 0 (by decide))

end Cert.KernelIdeal.Ring16
-- ==== Proof.HostVal.lean ====
/- What the host operations before the kernel leave in its operands. -/
module

public import proofs.«01_k».proof.Proof.Region
public import Idealize.ShloMosaic.Lib.StableHlo.Run
public import Idealize.ShloMosaic.Lib.StableHlo.RunClose
public import Idealize.ShloMosaic.Lib.Claim

@[expose] public section

noncomputable section

namespace Cert.KernelIdeal.Ring16

open Cert.KernelIdeal.Gen
open Idealize.ShloMosaic
open Idealize.ShloMosaic.TcCoe
open Idealize.SL.Sem

variable {F : FTy → Type} [FloatOps F]

variable (m : (ℓ : Loc nD τ sig) → Buf (Elt F) ℓ)

/-- The word a device reads for its successor. -/
theorem nOf_eq (c : Dev nD) (i : main_v26.ty.shape.Idx) : nOf m c i = BitVec.ofNat 32 (nxt c).val := by
  have h : nOf m c = StableHlo.after (hostOps0 c) (V0 m c) main_v26 := rfl
  rw [h]
  after_results_simp_entrywise
  clear h
  obtain rfl : i = Shape.Idx.first (by decide : 0 < main_v26.ty.shape.numel) := by
    funext k; fin_cases k; exact Subsingleton.elim (α := Fin 1) _ _
  fin_cases c <;> rfl
/-- The word a device reads for its predecessor. -/
theorem pOf_eq (c : Dev nD) (i : main_v32.ty.shape.Idx) : pOf m c i = BitVec.ofNat 32 (prv c).val := by
  have h : pOf m c = StableHlo.after (hostOps0 c) (V0 m c) main_v32 := rfl
  rw [h]
  after_results_simp_entrywise
  clear h
  obtain rfl : i = Shape.Idx.first (by decide : 0 < main_v32.ty.shape.numel) := by
    funext k; fin_cases k; exact Subsingleton.elim (α := Fin 1) _ _
  fin_cases c <;> rfl

end Cert.KernelIdeal.Ring16
-- ==== Proof.Talk.lean ====
/- The region's proof data: what its windows hold, and its body's run. -/
module

public import proofs.«01_k».proof.Proof.HostVal

@[expose] public section

noncomputable section

namespace Cert.KernelIdeal.Ring16

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The neighbours' numbers pass the kernel's checks -/

theorem chk2_of : ∀ d : Fin 16, k0_chk2 (BitVec.ofNat 32 d.val) := by decide
theorem chk1_of : ∀ d : Fin 16, k0_chk1 (BitVec.ofNat 32 d.val) := by decide
theorem dev2_of : ∀ d : Fin 16, k0_dev2 (BitVec.ofNat 32 d.val) = d.val := by decide
theorem dev1_of : ∀ d : Fin 16, k0_dev1 (BitVec.ofNat 32 d.val) = d.val := by decide

variable (m : (ℓ : Loc nD τ sig) → Buf (Elt F) ℓ)

/-- Every cell's invariant under some names. -/
def allInvs : sProp 𝕄 := iprop(∃ K, invs (LFm m) (FFm m) K)
/-- What a device brings to the region, -/
def Tk (c : Dev nD) : sProp 𝕄 :=
  iprop(allInvs m
    ∗ (bigSep Finset.univ fun p : I => iprop((openTok ER (sCell p.1 c (jrow p.1 p.2.1) p.2.2) ∗ openTok ER (rCell p.1 c (jrow p.1 p.2.1) p.2.2))
        ∗ dutyTok ER (sCell p.1 c (jrow p.1 p.2.1) p.2.2) 0 0 ∗ dutyTok ER (rCell p.1 (peer p.2.2 c) (jrow p.1 p.2.1) p.2.2) 0 0
        ∗ cred (tallyAt (rCell p.1 c (jrow p.1 p.2.1) p.2.2) () N)))
    ∗ dutyTok ER (barCell (prv c)) 0 0 ∗ dutyTok ER (barCell (nxt c)) 0 1 ∗ atPos ER (barCell c) 0 ∅ 0 ∗ cred (tallyAt (barCell c) () 2))
/-- what it enters it with, -/
def Xk (c : Dev nD) : sProp 𝕄 := iprop(allInvs m ∗ levAts L lv ∗ Begin c)
/-- and what it keeps. -/
def Yk (c : Dev nD) : sProp 𝕄 := semVal (barCell c) 0

/-- Before the body, and after it. -/
def Φ₀ (c : Dev nD) : sProp 𝕄 :=
  iprop(Xk m c ∗ (∃ V, pt false c Finset.univ fullShare V) ∗ (∃ V, pt true c Finset.univ fullShare V) ∗ ∃ r, prngReg c r)
def Φ₁ (c : Dev nD) : sProp 𝕄 :=
  iprop(Pipeline.ownSems0 osem c ∗ (∃ V, pt false c Finset.univ fullShare V) ∗ (∃ V, pt true c Finset.univ fullShare V)
    ∗ (∃ r, prngReg c r) ∗ Yk c)

/-- The region's proof data. -/
def dats (_ : Fin 1) (c : Dev nD) : Dat τ (Elt F) Unit ℕ UU ℕ cfg0 c where
  A w := V1 m c (Proc.devRef .tc (Pipeline.arrRef spec0 w))
  after w _ := match w with
    | ⟨0, _⟩ => xOf m c
    | ⟨1, _⟩ => wqOf m c
    | ⟨2, _⟩ => woOf m c
    | ⟨3, _⟩ => kOf m c
    | ⟨4, _⟩ => vOf m c
    | ⟨5, _⟩ => nOf m c
    | ⟨6, _⟩ => pOf m c
    | ⟨7, _⟩ => outOf m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A window's one block is its whole array. -/
theorem index_zero : ∀ (t : Fin cfg0.N) (w : Fin 8) (a : Fin (spec0 w).block.rank), (cfg0.win w).index t a * (spec0 w).block.size a = 0 := by decide +kernel

omit [FloatOps F] in
theorem read0 (t : Fin cfg0.N) (f : main_arg0.ty.Contents (Elt F)) : (win0_0.blk t).view.read (Elt F) f = f :=
  Memref.read_access_unit_zero (Elt F) main_arg0 (funext (index_zero t 0)) _ f
omit [FloatOps F] in
theorem read1 (t : Fin cfg0.N) (f : main_v20.ty.Contents (Elt F)) : (win0_1.blk t).view.read (Elt F) f = f :=
  Memref.read_access_unit_zero (Elt F) main_v20 (funext (index_zero t 1)) _ f
omit [FloatOps F] in
theorem read2 (t : Fin cfg0.N) (f : main_arg4.ty.Contents (Elt F)) : (win0_2.blk t).view.read (Elt F) f = f :=
  Memref.read_access_unit_zero (Elt F) main_arg4 (funext (index_zero t 2)) _ f
omit [FloatOps F] in
theorem read3 (t : Fin cfg0.N) (f : main_v11.ty.Contents (Elt F)) : (win0_3.blk t).view.read (Elt F) f = f :=
  Memref.read_access_unit_zero (Elt F) main_v11 (funext (index_zero t 3)) _ f
omit [FloatOps F] in
theorem read4 (t : Fin cfg0.N) (f : main_v18.ty.Contents (Elt F)) : (win0_4.blk t).view.read (Elt F) f = f :=
  Memref.read_access_unit_zero (Elt F) main_v18 (funext (index_zero t 4)) _ f
omit [FloatOps F] in
theorem read5 (t : Fin cfg0.N) (f : main_v26.ty.Contents (Elt F)) : (win0_5.blk t).view.read (Elt F) f = f :=
  Memref.read_access_unit_zero (Elt F) main_v26 (funext (index_zero t 5)) _ f
omit [FloatOps F] in
theorem read6 (t : Fin cfg0.N) (f : main_v32.ty.Contents (Elt F)) : (win0_6.blk t).view.read (Elt F) f = f :=
  Memref.read_access_unit_zero (Elt F) main_v32 (funext (index_zero t 6)) _ f
omit [FloatOps F] in
theorem read7 (t : Fin cfg0.N) (f : main_v33.ty.Contents (Elt F)) : (win0_7.blk t).view.read (Elt F) f = f :=
  Memref.read_access_unit_zero (Elt F) main_v33 (funext (index_zero t 7)) _ f
theorem before0 (c : Dev nD) (t : Fin cfg0.N) (d) : (dats m 0 c).before (0 : Fin 8) t d = xOf m c := by
  unfold Dat.before; rw [if_pos (fetch0_0 t)]
  exact read0 t (xOf m c)
theorem before1 (c : Dev nD) (t : Fin cfg0.N) (d) : (dats m 0 c).before (1 : Fin 8) t d = wqOf m c := by
  unfold Dat.before; rw [if_pos (fetch0_1 t)]
  exact read1 t (wqOf m c)
theorem before2 (c : Dev nD) (t : Fin cfg0.N) (d) : (dats m 0 c).before (2 : Fin 8) t d = woOf m c := by
  unfold Dat.before; rw [if_pos (fetch0_2 t)]
  exact read2 t (woOf m c)
theorem before3 (c : Dev nD) (t : Fin cfg0.N) (d) : (dats m 0 c).before (3 : Fin 8) t d = kOf m c := by
  unfold Dat.before; rw [if_pos (fetch0_3 t)]
  exact read3 t (kOf m c)
theorem before4 (c : Dev nD) (t : Fin cfg0.N) (d) : (dats m 0 c).before (4 : Fin 8) t d = vOf m c := by
  unfold Dat.before; rw [if_pos (fetch0_4 t)]
  exact read4 t (vOf m c)
theorem before5 (c : Dev nD) (t : Fin cfg0.N) (d) : (dats m 0 c).before (5 : Fin 8) t d = nOf m c := by
  unfold Dat.before; rw [if_pos (fetch0_5 t)]
  exact read5 t (nOf m c)
theorem before6 (c : Dev nD) (t : Fin cfg0.N) (d) : (dats m 0 c).before (6 : Fin 8) t d = pOf m c := by
  unfold Dat.before; rw [if_pos (fetch0_6 t)]
  exact read6 t (pOf m c)

theorem arrAt_out (c : Dev nD) : (dats m 0 c).arrAt (7 : Fin 8) cfg0.N = outOf m c := by
  have h : (win0_7.blk t0_0).view.read (Elt F) ((dats m 0 c).arrAt (7 : Fin 8) cfg0.N) = outOf m c := by
    rw [show cfg0.N = (t0_0 : Fin cfg0.N).val + 1 from rfl, (dats m 0 c).arrAt_succ (7 : Fin 8) t0_0,
      if_pos (flush0_7 t0_0)]
    exact View.read_write_univ _ _
  rw [← h]
  exact (read7 t0_0 _).symm

end Cert.KernelIdeal.Ring16

end
-- ==== Proof.Entry.lean ====
/- The kernel's body, run from what the region hands it. -/
module

public import proofs.«01_k».proof.Proof.Talk
public import proofs.«01_k».proof.Proof.Body

@[expose] public section

noncomputable section

namespace Cert.KernelIdeal.Ring16

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

omit [FloatOps F] in
/-- Every semaphore of the transfers at zero. -/
theorem zeros_eq (c : Dev nD) :
    (iprop(bigSep (Finset.Ico 0 15) (Zp false c) ∗ bigSep (Finset.Ico 1 16) (Zp true c)) : sProp 𝕄) = Pipeline.ownSems0 osem c := by
  have h1 := both_I (F := F) (fun q h b => Z q c h b)
  have h2 := bigSep_J (F := F) (fun j => semVal ((c : Thread nD τ), osem j) 0)
  exact h1.trans h2.symm

/-- The body from its two words on, with the operands any: at the end the result's buffer holds the device's own partial plus what landed. -/
theorem sound_any (LF FF : Bool → Dev nD → Rows F) (K : GSem nD τ sig → ℕ)
    (x : Dev nD → Vec F S2x128x512 .bf16) (wq : Dev nD → Vec F S512x512 .bf16) (kk v : Dev nD → Vec F S16x128x64 .bf16)
    (wo : Dev nD → Vec F S512x512 .bf16) (hF : Flow LF FF x wq kk v wo) (c : Dev nD)
    (n : cc0_stg5_0.ty.Contents (Elt F)) (p : cc0_stg6_0.ty.Contents (Elt F))
    (hn : ∀ i, n i = BitVec.ofNat 32 (nxt c).val) (hp : ∀ i, p i = BitVec.ofNat 32 (prv c).val)
    (V V' : Rows F) (o : Vec F S2x128x512 .f32) (Q : PUnit → sProp 𝕄) :
    iprop(invs LF FF K ∗ levAts L lv ∗ Begin c ∗ pt false c Finset.univ fullShare V ∗ pt true c Finset.univ fullShare V'
        ∗ owe c (O₀ c) ∗ xPt c (x c) ∗ ops c (wq c) (kk c) (v c) (wo c)
        ∗ (((c : Thread nD τ).loc cc0_stg5_0) ↦{fullShare} n) ∗ (((c : Thread nD τ).loc cc0_stg6_0) ↦{fullShare} p) ∗ outPt c o)
      ⊢ iprop(((xPt c (x c) ∗ ops c (wq c) (kk c) (v c) (wo c)
            ∗ (((c : Thread nD τ).loc cc0_stg5_0) ↦{fullShare} n) ∗ (((c : Thread nD τ).loc cc0_stg6_0) ↦{fullShare} p)
            ∗ outPt c (k0_pay1 (k0_pay57 (partF (x c) (wq c) (kk c) (v c) (wo c))) (rowOf (LF true c) 0 (by decide)))
            ∗ semVal (barCell c) 0 ∗ Pipeline.ownSems0 osem c
            ∗ (∃ V, pt false c Finset.univ fullShare V) ∗ (∃ V, pt true c Finset.univ fullShare V) ∗ owe c 0) -∗ Q ⟨⟩)
        -∗ WP c (bodyProg (Memref.whole cc0_stg0_0) (Memref.whole cc0_stg1_0) (Memref.whole cc0_stg2_0) (Memref.whole cc0_stg3_0)
          (Memref.whole cc0_stg4_0) (Memref.whole cc0_stg5_0) (Memref.whole cc0_stg6_0) (Memref.whole cc0_stg7_0)
          (bufM false) (bufW false) (bufM true) (bufW true) (sS false) (sR false) (sS true) (sR true)) Q) := by
  unfold bodyProg
  iintro ⟨#HI, #HL, HB, Hx, Ha, HO, Hxs, Hops, Hn, Hp, Hout⟩ Hk
  iapply (wp_smemLoadElt_named 𝒱₀ (c : Thread nD τ) none Set.univ (m := Memref.whole cc0_stg5_0)
    (S := Finset.univ) (q := fullShare) (f := n)) $$ Hn
  iintro Hn %v0 %h0
  obtain rfl : v0 = BitVec.ofNat 32 (nxt c).val := h0.trans (hn _)
  rw [wp_assume_of _ _ _ _ (chk2_of (nxt c))]
  iapply (wp_smemLoadElt_named 𝒱₀ (c : Thread nD τ) none Set.univ (m := Memref.whole cc0_stg6_0)
    (S := Finset.univ) (q := fullShare) (f := p)) $$ Hp
  iintro Hp %v1 %h1
  obtain rfl : v1 = BitVec.ofNat 32 (prv c).val := h1.trans (hp _)
  rw [wp_assume_of _ _ _ _ (chk1_of (prv c))]
  have hr : (⟨k0_dev2 (BitVec.ofNat 32 (nxt c).val), k0_dev2_lt _ (chk2_of (nxt c))⟩ : Dev nD) = nxt c := Fin.ext (dev2_of (nxt c))
  have hl : (⟨k0_dev1 (BitVec.ofNat 32 (prv c).val), k0_dev1_lt _ (chk1_of (prv c))⟩ : Dev nD) = prv c := Fin.ext (dev1_of (prv c))
  iapply (wp_opening LF FF K x wq kk v wo hF c _ _ hr hl V V' o _ Q) $$ [HB Hx Ha HO Hxs Hops Hout]
  · iframe
    isplitl []; · iexact HI
    iexact HL
  iintro ⟨Hxs, Hops, Hout, Hb, HS⟩
  iapply (wp_firstRound LF FF K x wq kk v wo hF c _ _ hr hl _ Q) $$ [Hops HS]
  · iframe
    isplitl []; · iexact HI
    iexact HL
  iintro ⟨Hops, HS⟩
  iapply (wp_tail LF FF K x wq kk v wo hF c _ _ hr hl _ Q 13 _) $$ [Hops Hout HS]
  · iframe
    isplitl []; · iexact HI
    iexact HL
  unfold Done
  iintro ⟨Hops, Hout, Hx, Ha, HZx, HZa, HO⟩
  iapply Hk
  rw [← zeros_eq]
  iframe

variable (m : (ℓ : Loc nD τ sig) → Buf (Elt F) ℓ)

/-- The two words. -/
def nPt (c : Dev nD) : sProp 𝕄 := ((c : Thread nD τ).loc cc0_stg5_0) ↦{fullShare} (nOf m c : cc0_stg5_0.ty.Contents (Elt F))
def pPt (c : Dev nD) : sProp 𝕄 := ((c : Thread nD τ).loc cc0_stg6_0) ↦{fullShare} (pOf m c : cc0_stg6_0.ty.Contents (Elt F))

/-- What the body reads and writes in the staging buffers, at what it finds or leaves in the result's. -/
def stg (c : Dev nD) (o : Vec F S2x128x512 .f32) : sProp 𝕄 :=
  iprop(xPt c (xOf m c) ∗ ops c (wqOf m c) (kOf m c) (vOf m c) (woOf m c) ∗ nPt m c ∗ pPt m c ∗ outPt c o)

/-- The body on the arrays as they lie at launch. -/
theorem sound_body (c : Dev nD) (o : Vec F S2x128x512 .f32) (Q : PUnit → sProp 𝕄) :
    iprop(Φ₀ m c ∗ owe c (O₀ c) ∗ stg m c o)
      ⊢ iprop(((Φ₁ c ∗ owe c 0 ∗ stg m c (outOf m c)) -∗ Q ⟨⟩)
        -∗ WP c (bodyProg (Memref.whole cc0_stg0_0) (Memref.whole cc0_stg1_0) (Memref.whole cc0_stg2_0) (Memref.whole cc0_stg3_0)
          (Memref.whole cc0_stg4_0) (Memref.whole cc0_stg5_0) (Memref.whole cc0_stg6_0) (Memref.whole cc0_stg7_0)
          (bufM false) (bufW false) (bufM true) (bufW true) (sS false) (sR false) (sS true) (sR true)) Q) := by
  unfold Φ₀ Xk allInvs stg nPt pPt
  iintro ⟨⟨⟨⟨%K, #HI⟩, #HL, HB⟩, ⟨%V, Hx⟩, ⟨%V', Ha⟩, Hreg⟩, HO, Hxs, Hops, Hn, Hp, Hout⟩ Hk
  iapply (sound_any (LFm m) (FFm m) K (xOf m) (wqOf m) (kOf m) (vOf m) (woOf m) (flow _ _ _ _ _) c (nOf m c) (pOf m c)
    (nOf_eq m c) (pOf_eq m c) V V' o Q) $$ [HB Hx Ha HO Hxs Hops Hn Hp Hout]
  · isplitl []; · iexact HI
    isplitl []; · iexact HL
    isplitl [HB]; · iexact HB
    isplitl [Hx]; · iexact Hx
    isplitl [Ha]; · iexact Ha
    isplitl [HO]; · iexact HO
    isplitl [Hxs]; · iexact Hxs
    isplitl [Hops]; · iexact Hops
    isplitl [Hn]; · iexact Hn
    isplitl [Hp]; · iexact Hp
    iexact Hout
  iintro ⟨Hxs, Hops, Hn, Hp, Hout, Hb, HZ, Hx, Ha, HO⟩
  iapply Hk
  unfold Φ₁ Yk outOf
  isplitl [HZ Hx Ha Hreg Hb]
  · isplitl [HZ]; · iexact HZ
    isplitl [Hx]; · iexact Hx
    isplitl [Ha]; · iexact Ha
    isplitl [Hreg]; · iexact Hreg
    iexact Hb
  isplitl [HO]; · iexact HO
  isplitl [Hxs]; · iexact Hxs
  isplitl [Hops]; · iexact Hops
  isplitl [Hn]; · iexact Hn
  isplitl [Hp]; · iexact Hp
  iexact Hout

end Cert.KernelIdeal.Ring16

end
-- ==== Proof.Seg.lean ====
/- The region as a segment of the program. -/
module

public import proofs.«01_k».proof.Proof.Entry

@[expose] public section

noncomputable section

namespace Cert.KernelIdeal.Ring16

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} (X : Buf (Elt F) ((c : Thread nD τ).loc b))) := by
  have h : (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
    unfold owns; simp only [Memref.view_whole, View.read_whole, View.set_whole]
  rw [h]
  have h₁ : (iprop(∃ f : Buf (Elt F) ((c : Thread nD τ).loc b), ⌜f = X⌝ ∗ (((c : Thread nD τ).loc b) ↦{fullShare} f)) : sProp 𝕄)
      ⊢ (((c : Thread nD τ).loc b) ↦{fullShare} (X : Buf (Elt F) ((c : Thread nD τ).loc b))) := by
    iintro ⟨%f, %h, H⟩
    subst h; iexact H
  have h₂ : ((((c : Thread nD τ).loc b) ↦{fullShare} (X : Buf (Elt F) ((c : Thread nD τ).loc b))) : sProp 𝕄)
      ⊢ iprop(∃ f : Buf (Elt F) ((c : Thread nD τ).loc b), ⌜f = X⌝ ∗ (((c : Thread nD τ).loc b) ↦{fullShare} f)) := by
    iintro H
    iexists X
    isplitr; · ipureintro; rfl
    iexact H
  exact BI.equiv_iff.mp ⟨h₁, h₂⟩

variable (m : (ℓ : Loc nD τ sig) → Buf (Elt F) ℓ)

theorem owesAt_first (c : Dev nD) : ((dats m 0 c).owesAt () (t0_0 : Fin cfg0.N).castSucc : sProp 𝕄) ⊢ owe c (O₀ c) := by
  unfold Dat.owesAt Pipeline.owesWithin owe
  iintro ⟨%W, -, HO⟩; iexists W; iexact HO
theorem owesAt_last (c : Dev nD) : (owe c 0 : sProp 𝕄) ⊢ (dats m 0 c).owesAt () (t0_0 : Fin cfg0.N).succ := by
  unfold Dat.owesAt Pipeline.owesWithin owe Dat.bound
  iintro ⟨%W, HO⟩; iexists W
  isplitr; · ipureintro; exact fun _ _ => Or.inl trivial
  iexact HO

/-- The staging buffers as the region holds them. -/
theorem stg_eq (c : Dev nD) (o : Vec F S2x128x512 .f32) : stg m c o ⊣⊢
    iprop(owns (c : Thread nD τ) (Memref.whole cc0_stg0_0) fullShare (xOf m c) ∗ owns (c : Thread nD τ) (Memref.whole cc0_stg1_0) fullShare (wqOf m c)
      ∗ owns (c : Thread nD τ) (Memref.whole cc0_stg2_0) fullShare (woOf m c) ∗ owns (c : Thread nD τ) (Memref.whole cc0_stg3_0) fullShare (kOf m c)
      ∗ owns (c : Thread nD τ) (Memref.whole cc0_stg4_0) fullShare (vOf m c) ∗ owns (c : Thread nD τ) (Memref.whole cc0_stg5_0) fullShare (nOf m c)
      ∗ owns (c : Thread nD τ) (Memref.whole cc0_stg6_0) fullShare (pOf m c) ∗ owns (c : Thread nD τ) (Memref.whole cc0_stg7_0) fullShare o) := by
  rw [owns_whole_eq, owns_whole_eq, owns_whole_eq, owns_whole_eq, owns_whole_eq, owns_whole_eq, owns_whole_eq, owns_whole_eq]
  unfold stg ops nPt pPt xPt outPt
  constructor
  · iintro ⟨H0, ⟨H1, H2, H3, H4⟩, H5, H6, H7⟩
    iframe
  · iintro ⟨H0, H1, H2, H3, H4, H5, H6, H7⟩
    iframe

set_option maxRecDepth 4000 in
set_option maxHeartbeats 2000000 in
/-- The library's body obligation. -/
theorem body_obligation (c : Dev nD) : BodyObligation (dats m 0 c) (defs₀ (F := F)) 𝒱₀ () Set.univ := fun t => by
  obtain rfl := fin_N0 t
  rw [bigSep_W0, bigSep_W0]
  rw [show (dats m 0 c).Φ t0_0.castSucc = Φ₀ m c from rfl, show (dats m 0 c).Φ t0_0.succ = Φ₁ c from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d, H7⟩⟩
  rw [before0, before1, before2, before3, before4, before5, before6]
  ihave HO := owesAt_first m c $$ HO
  ihave HS := (stg_eq m c ((dats m 0 c).before (7 : Fin 8) t0_0 d)).2 $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iapply (sound_body m c _ _) $$ [HΦ HO HS]
  · isplitl [HΦ]; · iexact HΦ
    isplitl [HO]; · iexact HO
    iexact HS
  iintro ⟨HΦ, HO, HS⟩
  ihave HO := owesAt_last m c $$ HO
  ihave HS := (stg_eq m c (outOf m c)).1 $$ HS
  isplitl [HΦ]; · iexact HΦ
  isplitl [HO]; · iexact HO
  iexact HS

end Cert.KernelIdeal.Ring16

end
-- ==== Proof.Record.lean ====
/- The region as a record: its semaphores' cells opened on entry, its buffers and semaphores given back on exit. -/
module

public import proofs.«01_k».proof.Proof.Seg
public import Idealize.ShloMosaic.Lib.Pipeline.RegionTalk

@[expose] public section

noncomputable section

namespace Cert.KernelIdeal.Ring16

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## Entry: the transfers' cells opened -/

/-- What device `c` has for a transfer while its two cells are closed. -/
def closedP (c : Dev nD) (p : I) : sProp 𝕄 :=
  iprop((openTok ER (sCell p.1 c (jrow p.1 p.2.1) p.2.2) ∗ openTok ER (rCell p.1 c (jrow p.1 p.2.1) p.2.2))
    ∗ dutyTok ER (sCell p.1 c (jrow p.1 p.2.1) p.2.2) 0 0 ∗ dutyTok ER (rCell p.1 (peer p.2.2 c) (jrow p.1 p.2.1) p.2.2) 0 0
    ∗ cred (tallyAt (rCell p.1 c (jrow p.1 p.2.1) p.2.2) () N))
/-- And with them open. -/
def openedP (c : Dev nD) (p : I) : sProp 𝕄 :=
  iprop(own p.1 c (jrow p.1 p.2.1) p.2.2 ∗ reached ER (rCell p.1 c (jrow p.1 p.2.1) p.2.2) 0)

variable (LF FF : Bool → Dev nD → Rows F) (K : GSem nD τ sig → ℕ)

theorem open_one (c : Dev nD) (p : I) :
    iprop(invs LF FF K ∗ (closedP c p ∗ (semVal (jCell c (false, p)) 0 ∗ semVal (jCell c (true, p)) 0)))
      ⊢ iprop(|={Set.univ}=> (openedP c p : sProp 𝕄)) := by
  unfold closedP openedP own
  iintro ⟨#HI, ⟨⟨Hos, Hor⟩, Hds, Hdr, Hc⟩, Hs, Hr⟩
  ihave HIs := inv_s LF FF K p.1 c (jrow p.1 p.2.1) p.2.2 (jrow_live p.1 p.2.1) $$ HI
  ihave HIr := inv_r LF FF K p.1 c (jrow p.1 p.2.1) p.2.2 (jrow_live p.1 p.2.1) $$ HI
  imod (Rounds.cell_open ER (Rd LF FF) (g := sCell p.1 c (jrow p.1 p.2.1) p.2.2) (Set.mem_univ (K (sCell p.1 c (jrow p.1 p.2.1) p.2.2)))) $$ [HIs Hos Hs] with ⟨Has, #Hrs⟩
  · isplitl [HIs]; · iexact HIs
    isplitl [Hos]; · iexact Hos
    iexact Hs
  imod (Rounds.cell_open ER (Rd LF FF) (g := rCell p.1 c (jrow p.1 p.2.1) p.2.2) (Set.mem_univ (K (rCell p.1 c (jrow p.1 p.2.1) p.2.2)))) $$ [HIr Hor Hr] with ⟨Har, #Hrr⟩
  · isplitl [HIr]; · iexact HIr
    isplitl [Hor]; · iexact Hor
    iexact Hr
  imodintro
  isplitl
  · isplitl [Hds]; · iexact Hds
    isplitl [Hdr]; · iexact Hdr
    isplitl []; · iexact Hrs
    isplitl [Has]; · iexact Has
    isplitl [Har]; · iexact Har
    iexact Hc
  iexact Hrr

theorem open_all (c : Dev nD) :
    iprop(invs LF FF K ∗ (bigSep Finset.univ fun p : I => (closedP c p : sProp 𝕄)) ∗ Pipeline.ownSems0 osem c)
      ⊢ iprop(|={Set.univ}=> ((both fun q h => ownp q c h) ∗ (both fun q h => rchp q c h) : sProp 𝕄)) := by
  have hZ : (Pipeline.ownSems0 osem c : sProp 𝕄)
      = bigSep Finset.univ fun p : I => iprop(semVal (jCell c (false, p)) 0 ∗ semVal (jCell c (true, p)) 0) :=
    bigSep_J (F := F) (fun j => semVal ((c : Thread nD τ), osem j) 0)
  have h1 : (both fun q h => ownp q c h : sProp 𝕄) = bigSep Finset.univ fun p : I => own p.1 c (jrow p.1 p.2.1) p.2.2 :=
    both_I (F := F) (fun q h b => own q c h b)
  have h2 : (both fun q h => rchp q c h : sProp 𝕄) = bigSep Finset.univ fun p : I => reached ER (rCell p.1 c (jrow p.1 p.2.1) p.2.2) 0 :=
    both_I (F := F) (fun q h b => reached ER (rCell q c h b) 0)
  rw [hZ, h1, h2]
  iintro ⟨#HI, HC, HZ⟩
  ihave H := (Entails.of_eq (bigSep_sep' (s := Finset.univ) (Φ := fun p : I => (closedP c p : sProp 𝕄))
    (Ψ := fun p : I => (iprop(semVal (jCell c (false, p)) 0 ∗ semVal (jCell c (true, p)) 0) : sProp 𝕄))).symm) $$ [HC HZ]
  · isplitl [HC]; · iexact HC
    iexact HZ
  ihave H := bigSep_with_persistent (R := invs LF FF K) (Φ := fun p : I => iprop(closedP c p ∗ (semVal (jCell c (false, p)) 0 ∗ semVal (jCell c (true, p)) 0)))
    (fun p _ => open_one LF FF K c p) $$ [H]
  · isplitl []; · iexact HI
    iexact H
  imod (BI.bigSep_fupd Finset.univ _) $$ [H] with H
  · iexact H
  imodintro
  unfold openedP
  ihave H := (Entails.of_eq (bigSep_sep' _ _ _)) $$ H
  iexact H

variable (m : (ℓ : Loc nD τ sig) → Buf (Elt F) ℓ)

theorem hopen (c : Dev nD) : iprop(Tk m c ∗ Pipeline.ownSems0 osem c ∗ levAts L lv) ⊢ iprop(|={Set.univ}=> (Xk m c : sProp 𝕄)) := by
  unfold Tk Xk allInvs Begin
  iintro ⟨⟨⟨%K, #HI⟩, HC, Hrest⟩, HZ, #HL⟩
  imod (open_all (LFm m) (FFm m) K c) $$ [HC HZ] with ⟨Hown, Hrch⟩
  · isplitl []; · iexact HI
    isplitl [HC]; · iexact HC
    iexact HZ
  imodintro
  isplitl []; · iexists K; iexact HI
  isplitl []; · iexact HL
  isplitl [Hown]; · iexact Hown
  isplitl [Hrch]; · iexact Hrch
  iexact Hrest

theorem hin (c : Dev nD) : iprop(Pipeline.scopedRest (Pipeline.pin (pcfgs (F := F)) adm 0).spec c ∗ (∃ r, prngReg c r)
      ∗ StableHlo.held (c.tc : Thread nD τ) ∅ (V1 m c) ∗ Xk m c) ⊢ ((dats m 0 c).Φ 0 : sProp 𝕄) := by
  rw [show (dats m 0 c).Φ 0 = Φ₀ m c from rfl, show (Pipeline.scopedRest (Pipeline.pin (pcfgs (F := F)) adm 0).spec c : sProp 𝕄)
    = iprop((∃ V, pt false c Finset.univ fullShare V) ∗ (∃ V, pt true c Finset.univ fullShare V)) from scopedRest0_eq c]
  unfold Φ₀
  iintro ⟨⟨Hx, Ha⟩, Hp, -, HX⟩
  isplitl [HX]; · iexact HX
  isplitl [Hx]; · iexact Hx
  isplitl [Ha]; · iexact Ha
  iexact Hp

theorem hout (W : Valuation τ sig (Elt F)) (c : Dev nD) : ((dats m 0 c).Φ (Fin.last (Pipeline.pin (pcfgs (F := F)) adm 0).N) : sProp 𝕄)
    ⊢ iprop(Pipeline.scopedRest (Pipeline.pin (pcfgs (F := F)) adm 0).spec c ∗ (∃ r, prngReg c r)
      ∗ StableHlo.held (c.tc : Thread nD τ) ∅ W ∗ Pipeline.ownSems0 osem c ∗ Yk c) := by
  rw [show (dats m 0 c).Φ (Fin.last _) = Φ₁ c from rfl, show (Pipeline.scopedRest (Pipeline.pin (pcfgs (F := F)) adm 0).spec c : sProp 𝕄)
    = iprop((∃ V, pt false c Finset.univ fullShare V) ∗ (∃ V, pt true c Finset.univ fullShare V)) from scopedRest0_eq c]
  unfold Φ₁ StableHlo.held
  rw [bigSep_empty]
  iintro ⟨HZ, Hx, Ha, Hp, HY⟩
  isplitl [Hx Ha]
  · isplitl [Hx]; · iexact Hx
    iexact Ha
  isplitl [Hp]; · iexact Hp
  isplitl []; · iempintro
  isplitl [HZ]; · iexact HZ
  iexact HY

theorem O₀_pos {c : Dev nD} {g : GSem nD τ sig} {u : Unit} (h : 0 < O₀ c g u) : u ∈ L g ∧ 0 < lv g u := by
  unfold O₀ at h
  rw [Pi.add_apply, Finsupp.add_apply, Pi.add_apply, Finsupp.add_apply] at h
  have hb (d : Dev nD) (h : 0 < (tallyAt (barCell d) () 1 : CellTallies nD τ sig Unit) g u) : u ∈ L g ∧ 0 < lv g u := by
    rw [tallyAt_apply] at h
    split at h
    · next hg => rw [hg.1]; exact ⟨Finset.mem_singleton_self _, Nat.one_pos⟩
    · exact absurd h (Nat.lt_irrefl 0)
  rcases Nat.add_pos_iff_pos_or_pos.mp h with h | h
  · rcases Nat.add_pos_iff_pos_or_pos.mp h with h | h
    · obtain ⟨q, i, b, hi, -, rfl⟩ := owed_pos h
      exact ⟨Finset.mem_singleton_self _, by rw [lv_r q _ i hi]; omega⟩
    · exact hb _ h
  · exact hb _ h

theorem cutD (c : Dev nD) (t : Fin ((Pipeline.pin (pcfgs (F := F)) adm 0).N + 1)) (g : GSem nD τ sig) (u : Unit)
    (h : 0 < (dats m 0 c).owed t g u) : u ∈ L g ∧ (0 : ℕ) < lv g u := by
  obtain ⟨t, ht⟩ := t
  cases t with
  | zero => exact O₀_pos h
  | succ n => exact absurd h (Nat.lt_irrefl 0)

/-- What the region leaves in the arrays it writes. -/
def outsOf : Outs (F := F) := fun _ r c => if h : main_v33 = r then h ▸ outOf m c else V1 m c r
theorem outsOf_v33 (c : Dev nD) : outsOf m 2 main_v33 c = outOf m c := dif_pos rfl

theorem V2_out (c : Dev nD) : V2 m (outsOf m) c main_v33 = outOf m c := by
  show Function.update (V1 m c) (Proc.devRef .tc main_v33) (outsOf m 2 main_v33 c) (Proc.devRef .tc main_v33) = _
  rw [Function.update_self, outsOf_v33]

theorem arr_start (c : Dev nD) (w : Fin 8) : (dats m 0 c).arrAt w 0 = V1 m c (Proc.devRef .tc (Pipeline.arrRef spec0 w)) := rfl
theorem arr_ne : ∀ w : Fin 8, w ≠ 7 → Pipeline.arrRef spec0 w ∉ ([main_v33] : List (Ref sig .tc)) := by decide
theorem arr_in : ∀ w : Fin 8, w ≠ 7 → (cfg0.win w).isOut = false := by decide
theorem arr_end (c : Dev nD) (w : Fin 8) :
    (dats m 0 c).arrAt w cfg0.N = V2 m (outsOf m) c (Proc.devRef .tc (Pipeline.arrRef spec0 w)) := by
  by_cases hw : w = 7
  · subst hw
    exact (arrAt_out m c).trans (V2_out m c).symm
  · exact ((dats m 0 c).arrAt_in w (arr_in w hw) _).trans (V2_of m (outsOf m) c _ (arr_ne w hw)).symm

/-- The buffers no window has for its array. -/
abbrev restRefs : Finset (DevRef τ sig) := Pipeline.ucRefs τ sig \ Pipeline.arrRefs spec0
theorem rest_keeps (c : Dev nD) : ∀ b ∈ restRefs \ ∅, V2 m (outsOf m) c b = V1 m c b := by
  intro b hb
  have h : b ≠ Proc.devRef .tc main_v33 := by
    rintro rfl
    rw [Finset.sdiff_empty, Finset.mem_sdiff] at hb
    exact hb.2 (by decide)
  exact Function.update_of_ne h _ _

theorem share_full (c : Dev nD) (w : Fin 8) : (dats m 0 c).share w = fullShare := by unfold Dat.share; split <;> rfl
theorem stage_L (c : Dev nD) (w : Fin 8) (s : Fin (spec0 w).nbuf) : lv ((c : Thread nD τ), .dma ((spec0 w).sem s)) () ≤ 0 := by
  show (if ((spec0 w).sem s).val < 8 then 0 else _) ≤ 0
  rw [if_pos (stage_sem w s)]

set_option backward.isDefEq.respectTransparency.types false in
/-- The region. -/
def reg : Pipeline.RegionSeg (pcfgs (F := F)) adm (dats m) () defs₀ 𝒱₀ L lv 0 :=
  Pipeline.RegionSeg.ofTalk (pcfgs (F := F)) adm (dats m) () defs₀ 𝒱₀ L lv 0 osem osem_facts
    ∅ restRefs (Finset.empty_subset _) launch0.toP rfl (fun c => (body_obligation m c).loose)
    (fun _ => 0) O₀ (fun _ => (zero_add _).symm) (fun _ => rfl) (fun _ => rfl) (share_full m)
    (V1 m) (V2 m (outsOf m)) (rest_keeps m)
    (Tk m) Yk (Xk m) Yk (hopen m) (hin m) (fun c => hout m (V2 m (outsOf m) c) c)
    (fun c => by iintro H; imodintro; iexact H)
    (fun _ => 0)
    ⟨fun _ _ _ => Finset.mem_singleton_self _, fun c w s => stage_L c w s, fun c t g u h => cutD m c t g u h⟩
    (fun _ => iprop(emp))
    (arr_start m) (arr_end m)

/-- What rides along with the buffers before the region, -/
def R₀ (c : Dev nD) : sProp 𝕄 := iprop((∃ r, prngReg c r) ∗ Tk m c ∗ ∃ W, owes (c : Thread nD τ) (O₀ c) W)
/-- and after it. -/
def R₁ (c : Dev nD) : sProp 𝕄 := iprop(Yk c ∗ ∃ W, owes (c : Thread nD τ) (0 : CellTallies nD τ sig Unit) W)

theorem arrs_sub : Pipeline.arrRefs (τ := τ) spec0 ⊆ Pipeline.ucRefs τ sig := by decide

theorem reg_pre (c : Dev nD) : iprop(StableHlo.held (c : Thread nD τ) (Pipeline.ucRefs τ sig) (V1 m c) ∗ R₀ m c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) restRefs (V1 m c) ∗ emp) ∗ Tk m c ∗ ∃ W, owes (c : Thread nD τ) (0 + O₀ c) W)
  rw [zero_add, StableHlo.held_sub_split (c : Thread nD τ) arrs_sub (V1 m c)]
  unfold R₀
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem reg_post (c : Dev nD) :
    (reg m).post c ⊢ iprop(StableHlo.held (c : Thread nD τ) (Pipeline.ucRefs τ sig) (V2 m (outsOf m) c) ∗ R₁ c) := by
  show iprop(StableHlo.held (c.tc : Thread nD τ) (Pipeline.arrRefs (τ := τ) spec0) (V2 m (outsOf m) c) ∗ (∃ r, prngReg c r)
    ∗ (StableHlo.held (c.tc : Thread nD τ) restRefs (V2 m (outsOf m) c) ∗ emp) ∗ Yk c
    ∗ ∃ W, owes (c : Thread nD τ) (0 : CellTallies nD τ sig Unit) W) ⊢ _
  rw [StableHlo.held_sub_split (c : Thread nD τ) arrs_sub (V2 m (outsOf m) c)]
  unfold R₁
  iintro ⟨Ha, -, ⟨Hr, -⟩, HY, HO⟩
  isplitl [Ha Hr]
  · isplitl [Ha]; · iexact Ha
    iexact Hr
  isplitl [HY]; · iexact HY
  iexact HO

end Cert.KernelIdeal.Ring16

end
-- ==== Proof.Launch.lean ====
/- The launch, and the run of the whole program: what every device's result holds at the end. -/
module

public import proofs.«01_k».proof.Proof.Record

@[expose] public section

noncomputable section

namespace Cert.KernelIdeal.Ring16

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg)

variable {F : FTy → Type} [FloatOps F]

local notation "𝕄" => MT nD τ sig Unit (Elt F) ℕ UU ℕ

/-! ## The credit at launch: what the devices owe is what each waits for -/

section Credit

theorem sum_ico {A : Type} [AddCommMonoid A] (f : ℕ → A) (q : Bool) :
    (∑ h ∈ Finset.Ico q.toNat (15 + q.toNat), f h) = ∑ i : Fin 15, f (jrow q i) := by
  rw [Finset.sum_Ico_eq_sum_range, Nat.add_sub_cancel, Finset.sum_range]
  exact Finset.sum_congr rfl fun i _ => by rw [Nat.add_comm]; rfl

theorem owed_all (c : Dev nD) : owed c 0 1 = ∑ p : I, due p.1 c (jrow p.1 p.2.1) p.2.2 := by
  have h (q : Bool) : (∑ p : Fin 15 × Fin 2, due q c (jrow q p.1) p.2)
      = ∑ h ∈ Finset.Ico q.toNat (15 + q.toNat), (due q c h 1 + due q c h 0) := by
    rw [sum_ico (fun h => due q c h 1 + due q c h 0) q, Fintype.sum_prod_type]
    exact Finset.sum_congr rfl fun i _ => by rw [Fin.sum_univ_two, add_comm]
  rw [Fintype.sum_prod_type, Fintype.sum_bool]
  dsimp only
  rw [h true, h false, add_comm]
  rfl

/-- What a device waits for. -/
def waits (c : Dev nD) : CellTallies nD τ sig Unit :=
  (∑ p : I, tallyAt (rCell p.1 c (jrow p.1 p.2.1) p.2.2) () N) + tallyAt (barCell c) () 2

theorem owed_sum : (∑ d, O₀ d) = ∑ d, waits d := by
  have h1 : (∑ d, owed d 0 1) = ∑ d, ∑ p : I, (tallyAt (rCell p.1 d (jrow p.1 p.2.1) p.2.2) () N : CellTallies nD τ sig Unit) := by
    rw [Finset.sum_congr rfl fun d _ => owed_all d, Finset.sum_comm, Finset.sum_comm (s := (Finset.univ : Finset (Dev nD)))]
    exact Finset.sum_congr rfl fun p _ =>
      Equiv.sum_comp (ring p.2.2) fun d => (tallyAt (rCell p.1 d (jrow p.1 p.2.1) p.2.2) () N : CellTallies nD τ sig Unit)
  have h2 : (∑ d, (tallyAt (barCell (nxt d)) () 1 : CellTallies nD τ sig Unit)) = ∑ d, tallyAt (barCell d) () 1 :=
    Equiv.sum_comp (ring 0) fun d => (tallyAt (barCell d) () 1 : CellTallies nD τ sig Unit)
  have h3 : (∑ d, (tallyAt (barCell (prv d)) () 1 : CellTallies nD τ sig Unit)) = ∑ d, tallyAt (barCell d) () 1 :=
    Equiv.sum_comp (ring 1) fun d => (tallyAt (barCell d) () 1 : CellTallies nD τ sig Unit)
  unfold O₀ waits
  rw [Finset.sum_add_distrib, Finset.sum_add_distrib, Finset.sum_add_distrib, h1, h2, h3, add_assoc, ← Finset.sum_add_distrib]
  exact congrArg _ (Finset.sum_congr rfl fun d _ => tallyAt_add _ _ _ _)

theorem waits_own (d : Dev nD) (g : GSem nD τ sig) (h : waits d g ≠ 0) : g.1 = (d.tc : Thread nD τ) := by
  by_contra hg
  refine h ?_
  have hz (sm : SemLoc sig) (n : ℕ) : (tallyAt ((d.tc : Thread nD τ), sm) () n : CellTallies nD τ sig Unit) g = 0 :=
    tallyAt_ne_cell (fun e => hg (congrArg Prod.fst e)) _ _
  unfold waits
  rw [Pi.add_apply, Finset.sum_apply, Finset.sum_eq_zero fun p _ => hz _ _, hz, add_zero]

omit [FloatOps F] in
theorem creds (c : Dev nD) : (Pipeline.launchCred O₀ c : sProp 𝕄)
    ⊢ iprop((bigSep Finset.univ fun p : I => cred (tallyAt (rCell p.1 c (jrow p.1 p.2.1) p.2.2) () N)) ∗ cred (tallyAt (barCell c) () 2)) := by
  rw [Pipeline.launchCred_of_sum O₀ waits owed_sum waits_own c]
  unfold waits
  rw [← Pipeline.cred_finsetSum]
  exact (cred_add _ _).1

end Credit

/-! ## What is allocated at launch -/

theorem disjoint_cells : Disjoint barCells scCells := by
  rw [Finset.disjoint_left]
  rintro g h₁ h₂
  obtain ⟨c, -, rfl⟩ := Finset.mem_map.mp h₁
  obtain ⟨cj, -, h⟩ := Finset.mem_map.mp h₂
  exact nomatch congrArg Prod.snd h

/-- The two duties of a barrier, and one of every transfer's semaphore. -/
def tokEmb : Dev nD × (Fin 2 ⊕ J) ↪ GSem nD τ sig × ℕ × Fin 2 where
  toFun x := match x.2 with
    | .inl k => (barCell x.1, 0, k)
    | .inr j => (jCell x.1 j, 0, 0)
  inj' := by
    rintro ⟨c, k | j⟩ ⟨c', k' | j'⟩ h
    · have h1 := congrArg (fun t : GSem nD τ sig × ℕ × Fin 2 => t.1.1.1) h
      have h2 := congrArg (fun t : GSem nD τ sig × ℕ × Fin 2 => t.2.2) h
      exact Prod.ext h1 (congrArg Sum.inl h2)
    · exact nomatch congrArg (fun t : GSem nD τ sig × ℕ × Fin 2 => t.1.2) h
    · exact nomatch congrArg (fun t : GSem nD τ sig × ℕ × Fin 2 => t.1.2) h
    · have h1 := jCell_inj _ _ _ _ (congrArg (fun t : GSem nD τ sig × ℕ × Fin 2 => t.1) h)
      exact Prod.ext h1.1 (congrArg Sum.inr h1.2)
def allToks : Finset (GSem nD τ sig × ℕ × Fin 2) := Finset.univ.map tokEmb

def u₀ : UU :=
  (initOf (Pipeline.cells (Pipeline.pin (pcfgs (F := F)) adm) cellOf_inj) (Pipeline.launchToks (Pipeline.pin (pcfgs (F := F)) adm) cellOf_inj),
    launchOf barCells scCells allToks)

/-- A resource dealt to one device. -/
def atDev (c₀ : Dev nD) (X : sProp 𝕄) (c : Dev nD) : sProp 𝕄 := if c = c₀ then X else iprop(emp)
omit [FloatOps F] in
theorem bigSep_atDev (c₀ : Dev nD) (X : sProp 𝕄) : bigSep Finset.univ (atDev c₀ X) = X := by
  rw [bigSep_univ_at _ c₀, bigSep_congr (s := Finset.univ.erase c₀) (Ψ := fun _ => (BI.emp : sProp 𝕄))
      fun c hc => by unfold atDev; rw [if_neg (Finset.ne_of_mem_erase hc)]; rfl, BI.bigSep_emp_const]
  unfold atDev; rw [if_pos rfl]
  exact BI.equiv_iff.mp sep_emp
def G : Dev nD → sProp 𝕄 := atDev 0 (BI.own (ER (launchOf barCells scCells allToks)))

omit [FloatOps F] in
/-- The duties' tokens by the device whose cell they are of. -/
theorem toks_eq : bigSep allToks (fun x => (dutyTok ER x.1 x.2.1 x.2.2 : sProp 𝕄))
    = iprop((bigSep Finset.univ fun c : Dev nD => iprop(dutyTok ER (barCell c) 0 0 ∗ dutyTok ER (barCell c) 0 1))
      ∗ (bigSep Finset.univ fun c : Dev nD => bigSep Finset.univ fun p : I => (dutyTok ER (sCell p.1 c (jrow p.1 p.2.1) p.2.2) 0 0 : sProp 𝕄))
      ∗ (bigSep Finset.univ fun c : Dev nD => bigSep Finset.univ fun p : I => (dutyTok ER (rCell p.1 c (jrow p.1 p.2.1) p.2.2) 0 0 : sProp 𝕄))) := by
  unfold allToks
  rw [bigSep_map, bigSep_univ_prod]
  have h (c : Dev nD) : (bigSep Finset.univ fun x : Fin 2 ⊕ J => (dutyTok ER (tokEmb (c, x)).1 (tokEmb (c, x)).2.1 (tokEmb (c, x)).2.2 : sProp 𝕄))
      = iprop((dutyTok ER (barCell c) 0 0 ∗ dutyTok ER (barCell c) 0 1)
        ∗ (bigSep Finset.univ fun p : I => (dutyTok ER (sCell p.1 c (jrow p.1 p.2.1) p.2.2) 0 0 : sProp 𝕄))
        ∗ (bigSep Finset.univ fun p : I => (dutyTok ER (rCell p.1 c (jrow p.1 p.2.1) p.2.2) 0 0 : sProp 𝕄))) := by
    have e1 : (bigSep Finset.univ fun k : Fin 2 => (dutyTok ER (barCell c) 0 k : sProp 𝕄))
        = iprop(dutyTok ER (barCell c) 0 0 ∗ dutyTok ER (barCell c) 0 1) :=
      BI.bigSep_fin_two (fun k : Fin 2 => (dutyTok ER (barCell c) 0 k : sProp 𝕄))
    have e2 : (bigSep Finset.univ fun j : J => (dutyTok ER (jCell c j) 0 0 : sProp 𝕄))
        = iprop((bigSep Finset.univ fun p : I => (dutyTok ER (sCell p.1 c (jrow p.1 p.2.1) p.2.2) 0 0 : sProp 𝕄))
          ∗ (bigSep Finset.univ fun p : I => (dutyTok ER (rCell p.1 c (jrow p.1 p.2.1) p.2.2) 0 0 : sProp 𝕄))) :=
      (bigSep_J (fun j => (dutyTok ER (jCell c j) 0 0 : sProp 𝕄))).trans (bigSep_sep' _ _ _)
    rw [← e1, ← e2]
    exact bigSep_univ_sum _
  rw [bigSep_congr fun c _ => h c, bigSep_sep']
  exact congrArg (fun X : sProp 𝕄 => iprop((bigSep Finset.univ fun c : Dev nD => iprop(dutyTok ER (barCell c) 0 0 ∗ dutyTok ER (barCell c) 0 1)) ∗ X))
    (bigSep_sep' _ _ _)

omit [FloatOps F] in
/-- Over the devices a transfer goes to, as over the devices. -/
theorem around (f : I → Dev nD → sProp 𝕄) :
    (bigSep Finset.univ fun c : Dev nD => bigSep Finset.univ fun p : I => f p c)
      = bigSep Finset.univ fun c : Dev nD => bigSep Finset.univ fun p : I => f p (peer p.2.2 c) := by
  let e : Dev nD × I ≃ Dev nD × I :=
    ⟨fun x => (peer x.2.2.2 x.1, x.2), fun x => (from' x.2.2.2 x.1, x.2), fun x => Prod.ext (from_peer _ _) rfl, fun x => Prod.ext (peer_from _ _) rfl⟩
  exact (bigSep_univ_prod (fun x : Dev nD × I => f x.2 x.1)).symm.trans
    ((bigSep_univ_equiv e (fun x : Dev nD × I => f x.2 x.1)).trans (bigSep_univ_prod (fun x : Dev nD × I => f x.2 (peer x.2.2.2 x.1))))

variable (m : (ℓ : Loc nD τ sig) → Buf (Elt F) ℓ) (ρ : Dev nD → PrngReg)

/-- What the launch leaves with a device. -/
def dealt (c : Dev nD) : sProp 𝕄 :=
  iprop((bigSep Finset.univ fun p : I => (closedP c p : sProp 𝕄)) ∗ dutyTok ER (barCell (prv c)) 0 0 ∗ dutyTok ER (barCell (nxt c)) 0 1
    ∗ atPos ER (barCell c) 0 ∅ 0 ∗ cred (tallyAt (barCell c) () 2)
    ∗ StableHlo.held (c : Thread nD τ) (Pipeline.ucRefs τ sig) (V0 m c) ∗ (∃ r, prngReg c r) ∗ ∃ W, owes (c : Thread nD τ) (O₀ c) W)
/-- The first state. -/
abbrev S₀ (c : Dev nD) : sProp 𝕄 := iprop(StableHlo.held (c : Thread nD τ) (Pipeline.ucRefs τ sig) (V0 m c) ∗ R₀ m c)

theorem S₀_intro (K : GSem nD τ sig → ℕ) (c : Dev nD) : iprop(invs (LFm m) (FFm m) K ∗ dealt m c) ⊢ (S₀ m c : sProp 𝕄) := by
  unfold dealt S₀ R₀ Tk allInvs
  iintro ⟨#HI, HC, H1, H2, Hat, Hc, Hh, Hp, HO⟩
  isplitl [Hh]; · iexact Hh
  isplitl [Hp]; · iexact Hp
  isplitr [HO]
  · isplitl []; · iexists K; iexact HI
    isplitl [HC]; · iexact HC
    isplitl [H1]; · iexact H1
    isplitl [H2]; · iexact H2
    isplitl [Hat]; · iexact Hat
    iexact Hc
  iexact HO

theorem unscoped_only : (Finset.univ.filter fun sm : SemLoc sig => ¬ sm.isScoped .tc) = {SemLoc.reg (sig.barrier 0 rfl)} := by decide
theorem unscopedSems0_eq (c : Dev nD) : (unscopedSems0 c : sProp 𝕄) = semVal (barCell c) 0 := by
  unfold unscopedSems0
  rw [unscoped_only, BI.bigSep_singleton]

theorem closed_deal :
    iprop((bigSep scCells fun g => (openTok ER g : sProp 𝕄))
        ∗ (bigSep Finset.univ fun c : Dev nD => bigSep Finset.univ fun p : I => (dutyTok ER (sCell p.1 c (jrow p.1 p.2.1) p.2.2) 0 0 : sProp 𝕄))
        ∗ (bigSep Finset.univ fun c : Dev nD => bigSep Finset.univ fun p : I => (dutyTok ER (rCell p.1 c (jrow p.1 p.2.1) p.2.2) 0 0 : sProp 𝕄))
        ∗ (bigSep Finset.univ fun c : Dev nD => bigSep Finset.univ fun p : I => (cred (tallyAt (rCell p.1 c (jrow p.1 p.2.1) p.2.2) () N) : sProp 𝕄)))
      ⊢ (bigSep Finset.univ fun c : Dev nD => bigSep Finset.univ fun p : I => (closedP c p : sProp 𝕄)) := by
  have ho : (bigSep scCells fun g => (openTok ER g : sProp 𝕄)) = bigSep Finset.univ fun c : Dev nD => bigSep Finset.univ fun p : I =>
      iprop(openTok ER (sCell p.1 c (jrow p.1 p.2.1) p.2.2) ∗ openTok ER (rCell p.1 c (jrow p.1 p.2.1) p.2.2)) := by
    unfold scCells
    rw [bigSep_map, bigSep_univ_prod]
    exact bigSep_congr fun c _ => bigSep_J (fun j => (openTok ER (jCell c j) : sProp 𝕄))
  rw [ho, around (fun p c => (dutyTok ER (rCell p.1 c (jrow p.1 p.2.1) p.2.2) 0 0 : sProp 𝕄)), ← bigSep_sep', ← bigSep_sep', ← bigSep_sep']
  refine bigSep_mono fun c _ => ?_
  rw [← bigSep_sep', ← bigSep_sep', ← bigSep_sep']
  exact bigSep_mono fun p _ => BI.Entails.refl _

omit [FloatOps F] in
theorem bigSep_five (A B C D E : Dev nD → sProp 𝕄) : (bigSep Finset.univ fun c : Dev nD => iprop(A c ∗ B c ∗ C c ∗ D c ∗ E c))
    = iprop(bigSep Finset.univ A ∗ bigSep Finset.univ B ∗ bigSep Finset.univ C ∗ bigSep Finset.univ D ∗ bigSep Finset.univ E) := by
  rw [bigSep_sep', bigSep_sep', bigSep_sep', bigSep_sep']

omit [FloatOps F] in
theorem bigSep_six (A B C D E H : Dev nD → sProp 𝕄) : (bigSep Finset.univ fun c : Dev nD => iprop(A c ∗ B c ∗ C c ∗ D c ∗ E c ∗ H c))
    = iprop(bigSep Finset.univ A ∗ bigSep Finset.univ B ∗ bigSep Finset.univ C ∗ bigSep Finset.univ D ∗ bigSep Finset.univ E ∗ bigSep Finset.univ H) := by
  rw [bigSep_sep', bigSep_five]

theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ iprop(|={Set.univ}=> (bigSep Finset.univ (S₀ m) : sProp 𝕄)) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop((StableHlo.held (c : Thread nD τ) (Pipeline.ucRefs τ sig) (V0 m c) ∗ (∃ r, prngReg c r) ∗ ∃ W, owes (c : Thread nD τ) (O₀ c) W)
          ∗ semVal (barCell c) 0 ∗ (bigSep Finset.univ fun p : I => cred (tallyAt (rCell p.1 c (jrow p.1 p.2.1) p.2.2) () N))
          ∗ cred (tallyAt (barCell c) () 2) ∗ G c) : sProp 𝕄) := by
    rw [show (unscopedBufs c (fun b => m ((c : Thread nD τ).loc b)) : sProp 𝕄) = StableHlo.held (c : Thread nD τ) (Pipeline.ucRefs τ sig) (V0 m c) from
      Pipeline.unscopedBufs_held c (V0 m c), unscopedSems0_eq]
    iintro ⟨Hh, Hs, HO, Hc, Hp, HG⟩
    ihave Hc := creds c $$ Hc
    icases Hc with ⟨HcI, HcB⟩
    isplitl [Hh Hp HO]
    · isplitl [Hh]; · iexact Hh
      isplitl [Hp]; · iexists (ρ c); iexact Hp
      iexists ∅; iexact HO
    isplitl [Hs]; · iexact Hs
    isplitl [HcI]; · iexact HcI
    isplitl [HcB]; · iexact HcB
    iexact HG
  have hv : (bigSep Finset.univ fun c : Dev nD => (semVal (barCell c) 0 : sProp 𝕄)) = bigSep barCells fun g => (semVal g 0 : sProp 𝕄) :=
    (bigSep_map (s := Finset.univ) barEmb (Φ := fun g : GSem nD τ sig => (semVal g 0 : sProp 𝕄))).symm
  have hat : (bigSep barCells fun g => (atPos ER g 0 ∅ 0 : sProp 𝕄)) = bigSep Finset.univ fun c : Dev nD => (atPos ER (barCell c) 0 ∅ 0 : sProp 𝕄) :=
    bigSep_map (s := Finset.univ) barEmb (Φ := fun g : GSem nD τ sig => (atPos ER g 0 ∅ 0 : sProp 𝕄))
  have hb0 : (bigSep Finset.univ fun c : Dev nD => (dutyTok ER (barCell c) 0 0 : sProp 𝕄))
      = bigSep Finset.univ fun c : Dev nD => (dutyTok ER (barCell (prv c)) 0 0 : sProp 𝕄) :=
    bigSep_univ_equiv (ring 1) (fun c : Dev nD => (dutyTok ER (barCell c) 0 0 : sProp 𝕄))
  have hb1 : (bigSep Finset.univ fun c : Dev nD => (dutyTok ER (barCell c) 0 1 : sProp 𝕄))
      = bigSep Finset.univ fun c : Dev nD => (dutyTok ER (barCell (nxt c)) 0 1 : sProp 𝕄) :=
    bigSep_univ_equiv (ring 0) (fun c : Dev nD => (dutyTok ER (barCell c) 0 1 : sProp 𝕄))
  refine (sep_mono_left (bigSep_mono fun c _ => hcore c)).trans ?_
  rw [bigSep_five (fun c : Dev nD => (iprop(StableHlo.held (c : Thread nD τ) (Pipeline.ucRefs τ sig) (V0 m c) ∗ (∃ r, prngReg c r)
    ∗ ∃ W, owes (c : Thread nD τ) (O₀ c) W) : sProp 𝕄)), hv]
  iintro ⟨⟨HB, Hs, HcI, HcB, HG⟩, -⟩
  ihave Hu := (Entails.of_eq (bigSep_atDev 0 (BI.own (ER (launchOf barCells scCells allToks)) : sProp 𝕄))) $$ [HG]
  · iexact HG
  imod (Rounds.fund_launch ER (Rd (LFm m) (FFm m)) disjoint_cells (fun g _ h => h) allToks) $$ [Hs Hu] with ⟨%K, -, #HI, #Hr, Hat, Hopen, Htok⟩
  · isplitl [Hs]; · iexact Hs
    iexact Hu
  ihave Htok := (Entails.of_eq toks_eq) $$ Htok
  icases Htok with ⟨Htb, Hts, Htr⟩
  ihave Htb := (Entails.of_eq (bigSep_sep' Finset.univ (fun c : Dev nD => (dutyTok ER (barCell c) 0 0 : sProp 𝕄))
    (fun c : Dev nD => (dutyTok ER (barCell c) 0 1 : sProp 𝕄)))) $$ Htb
  icases Htb with ⟨Ht0, Ht1⟩
  ihave Ht0 := (Entails.of_eq hb0) $$ Ht0
  ihave Ht1 := (Entails.of_eq hb1) $$ Ht1
  ihave Hat := (Entails.of_eq hat) $$ Hat
  ihave HC := closed_deal $$ [Hopen Hts Htr HcI]
  · isplitl [Hopen]; · iexact Hopen
    isplitl [Hts]; · iexact Hts
    isplitl [Htr]; · iexact Htr
    iexact HcI
  imodintro
  iapply (bigSep_with_persistent (R := invs (LFm m) (FFm m) K) (Φ := fun c => dealt m c) fun c _ => S₀_intro m K c)
  isplitl []
  · unfold invs
    isplitl []; · iexact HI
    iexact Hr
  iapply (Entails.of_eq (bigSep_six (F := F) _ _ _ _ _ _).symm)
  isplitl [HC]; · iexact HC
  isplitl [Ht0]; · iexact Ht0
  isplitl [Ht1]; · iexact Ht1
  isplitl [Hat]; · iexact Hat
  isplitl [HcB]; · iexact HcB
  iexact HB

/-! ## The run -/

theorem unscoped_eq : ∀ sm : SemLoc sig, sm.isScoped .tc = false → sm = .reg (sig.barrier 0 rfl) := by decide
abbrev Sₙ (c : Dev nD) : sProp 𝕄 := iprop(StableHlo.held (c : Thread nD τ) (Pipeline.ucRefs τ sig) (V2 m (outsOf m) c) ∗ semVal (barCell c) 0)
abbrev rest (i : Fin 2) (c : Dev nD) : sProp 𝕄 := match i with
  | 0 => R₀ m c
  | 1 => R₁ c
abbrev sgs (c : Dev nD) := segs m 𝒱₀ L lv (rest m) () (dats m) (reg m) c

/-- What the program leaves on a device. -/
def Ends (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_v33) = outOf m c

theorem mem_uc (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

theorem read_end (c : Dev nD) (s' : Phys nD τ sig (Elt F)) :
    iprop(Sₙ m c ∗ SI s') ⊢ iprop(|={Set.univ}=> (iprop(⌜Ends m c s'.mem ∧ s'.mem.sem (barCell c) = 0⌝ ∗ SI s') : sProp 𝕄)) := by
  unfold Sₙ StableHlo.held
  iintro ⟨⟨Hh, Hb⟩, HSI⟩
  icombine HSI Hb gives %hb
  ihave Hr := (pointsTo_read_all (Pipeline.ucRefs τ sig) (fun b => ((c : Thread nD τ).1, b)) (V2 m (outsOf m) c) s') $$ [Hh HSI]
  · isplitl [Hh]; · iexact Hh
    iexact HSI
  icases Hr with ⟨%h, HSI⟩
  imodintro
  isplitl []
  · ipureintro
    exact ⟨⟨(h _ (mem_uc main_arg0 (by decide))).trans (V2_main_arg0 m (outsOf m) c),
      (h _ (mem_uc main_arg1 (by decide))).trans (V2_main_arg1 m (outsOf m) c),
      (h _ (mem_uc main_arg2 (by decide))).trans (V2_main_arg2 m (outsOf m) c),
      (h _ (mem_uc main_arg3 (by decide))).trans (V2_main_arg3 m (outsOf m) c),
      (h _ (mem_uc main_arg4 (by decide))).trans (V2_main_arg4 m (outsOf m) c),
      (h _ (mem_uc main_v33 (by decide))).trans (V2_out m c)⟩, by simpa using hb⟩
  iexact HSI

set_option backward.isDefEq.respectTransparency.types false in
/-- From any memory, with every counter at zero, the program ends with its arguments unchanged, its result the device's own partial plus
    what landed, and every counter at zero. -/
theorem run_main : θ_run defs (onTc (τ := τ) (main (F := F))) ⟨m, fun _ => 0, ρ⟩
    (fun r => (∀ c : Dev nD, Ends m c r.2) ∧ r.2.sem = fun _ => 0) :=
  Pipeline.θ_run_regions_kit_dev_sems (pcfgs (F := F)) adm (dats m) () cellOf_inj EP defs₀ 𝒱₀ L lv m ρ main
    (sgs m)
    (fun c Q => by
      rewrite [main_chain c, Seg.run_eq_chain,
        show (sgs m c).map Seg.prog = [StableHlo.seq (hostOps0 c), Prog.lift (.customCall (Pipeline.entry 0) ())] from rfl]
      dsimp (config := { failIfUnchanged := false }) only
      exact .rfl)
    (fun c => by simp only [sgs, segs, Seg.pipes_host, Seg.pipes_region, Seg.pipes_nil]; decide)
    O₀ L_of_ne G u₀
    (by
      unfold u₀ G
      iintro Hu
      ihave H := (ownU_pair _ _) $$ Hu
      icases H with ⟨HP, HX⟩
      imodintro
      isplitl [HP]; · iexact HP
      rw [bigSep_atDev]; iexact HX)
    (T₀ := S₀ m) (Tₙ := Sₙ m)
    (hch := fun c => ⟨.rfl, reg_pre m c, (reg_post m c).trans (by
      unfold R₁ Yk
      iintro ⟨Hh, Hb, HO⟩
      isplitr [HO]
      · isplitl [Hh]; · iexact Hh
        iexact Hb
      iexact HO)⟩)
    (hinit := launch m ρ)
    (QY := fun c s => Ends m c s ∧ s.sem (barCell c) = 0)
    (hfin := read_end m)
    (hQ := fun s h hs => ⟨fun c => (h c).1, sem_eq_zero hs fun c sm hsm => by
      obtain rfl := unscoped_eq sm hsm
      exact (h c).2⟩)

end Cert.KernelIdeal.Ring16

end
-- ==== Proof.Frames.lean ====
/- The frames: the three programs end, from any memory, with their arguments unchanged and their counters at zero. -/
module

public import proofs.«01_k».proof.Defs
public import proofs.«01_k».proof.Proof.Gen.Kernel
public import proofs.«01_k».proof.Proof.Gen.Kernel.Launch
public import proofs.«01_k».proof.Proof.Gen.ReferenceIdeal
public import proofs.«01_k».proof.Proof.Gen.ReferenceIdeal.Run
public import proofs.«01_k».proof.Proof.Launch

@[expose] public section

noncomputable section

namespace Cert.Proof

open Idealize.ShloMosaic Idealize.SL.Sem

/-- The arguments the kernel ends with are the ones it began with. -/
theorem args_kept {F : FTy → Type} [FloatOps F] {m : (ℓ : Loc Cert.KernelIdeal.nD Cert.KernelIdeal.τ Cert.KernelIdeal.sig) → Buf (Elt F) ℓ}
    {c : Dev Cert.KernelIdeal.nD} {s : MemSt Cert.KernelIdeal.nD Cert.KernelIdeal.τ Cert.KernelIdeal.sig (Elt F)} (h : Cert.KernelIdeal.Ring16.Ends m c s) :
    s.mem ((c.tc : Thread Cert.KernelIdeal.nD Cert.KernelIdeal.τ).loc Cert.KernelIdeal.main_arg0) = m ((c.tc : Thread _ _).loc Cert.KernelIdeal.main_arg0)
    ∧ s.mem ((c.tc : Thread Cert.KernelIdeal.nD Cert.KernelIdeal.τ).loc Cert.KernelIdeal.main_arg1) = m ((c.tc : Thread _ _).loc Cert.KernelIdeal.main_arg1)
    ∧ s.mem ((c.tc : Thread Cert.KernelIdeal.nD Cert.KernelIdeal.τ).loc Cert.KernelIdeal.main_arg2) = m ((c.tc : Thread _ _).loc Cert.KernelIdeal.main_arg2)
    ∧ s.mem ((c.tc : Thread Cert.KernelIdeal.nD Cert.KernelIdeal.τ).loc Cert.KernelIdeal.main_arg3) = m ((c.tc : Thread _ _).loc Cert.KernelIdeal.main_arg3)
    ∧ s.mem ((c.tc : Thread Cert.KernelIdeal.nD Cert.KernelIdeal.τ).loc Cert.KernelIdeal.main_arg4) = m ((c.tc : Thread _ _).loc Cert.KernelIdeal.main_arg4) :=
  ⟨h.1, h.2.1, h.2.2.1, h.2.2.2.1, h.2.2.2.2.1⟩

theorem frame_kernelIdeal : Cert.quiescent_KernelIdeal := fun m ρ _ =>
  (θ_run Cert.KernelIdeal.defs _ _).mono
    (fun _ h => ⟨fun c => args_kept (h.1 c), h.2⟩) (Cert.KernelIdeal.Ring16.run_main (F := Ideal) m ρ)

/-! The kernel's two prints, for bit-exact and for ideal floats, are one text: body, table and host operations agree. -/

section Same

variable {F : FTy → Type} [FloatOps F]

set_option maxHeartbeats 4000000 in
theorem body_same : Cert.Kernel.cc0_body (F := F) = Cert.KernelIdeal.cc0_body (F := F) := rfl

set_option maxHeartbeats 4000000 in
theorem table_same : Cert.Kernel.defs₀ (F := F) = Cert.KernelIdeal.defs₀ (F := F) := by
  unfold Cert.Kernel.defs₀ Cert.KernelIdeal.defs₀
  rw [body_same]
  refine congrArg Defs.onTc (funext fun x => funext fun y => ?_)
  match x, y with
  | 0, (t, s) => rfl

theorem calls_same : Cert.Kernel.pcfgs (F := F) = Cert.KernelIdeal.pcfgs (F := F) := rfl

set_option maxHeartbeats 4000000 in
theorem defs_same : Cert.Kernel.defs (F := F) = Cert.KernelIdeal.defs (F := F) :=
  congrArg (Pipeline.defs (Cert.KernelIdeal.pcfgs (F := F))) table_same

set_option maxHeartbeats 4000000 in
theorem host_same (c : Dev 16) : Cert.Kernel.Gen.hostOps0 (F := F) c = Cert.KernelIdeal.Gen.hostOps0 (F := F) c := rfl

set_option maxHeartbeats 4000000 in
theorem main_same : Cert.Kernel.main (F := F) = Cert.KernelIdeal.main (F := F) :=
  funext fun c => (Cert.Kernel.Gen.main_chain c).trans
    ((congrArg (fun l => Pipeline.chain [StableHlo.seq l, Prog.lift (.customCall (Pipeline.entry 0) ())]) (host_same c)).trans (Cert.KernelIdeal.Gen.main_chain c).symm)

end Same

set_option maxHeartbeats 4000000 in
/-- The kernel at bit-exact floats: the run of the ideal program, whose text is the same, at `Bits`. -/
theorem frame_kernel : Cert.quiescent_Kernel := by
  intro m ρ _
  rw [main_same, defs_same]
  exact (θ_run Cert.KernelIdeal.defs _ _).mono
    (fun _ h => ⟨fun c => args_kept (h.1 c), h.2⟩) (Cert.KernelIdeal.Ring16.run_main (F := Bits) m ρ)

/-- The reference's run writes none of its arguments, and it has no counters. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Proof

end
-- ==== Proof.Attend.lean ====
/- One head of attention at one query, over the extended reals, as the kernel computes it and as the reference does. -/
module

public import Idealize.ShloMosaic.PureOps.Ideal.Laws
public import Idealize.ShloMosaic.Lib.IdealHost

@[expose] public section

noncomputable section

namespace Cert.Attend

open Idealize.ShloMosaic

/-- A query, projected, against one key. -/
def score (x : Fin 512 → EReal) (w : Fin 512 → Fin 64 → EReal) (k : Fin 64 → EReal) : EReal :=
  ∑ d, (∑ e, x e * w e d) * k d

/-- The kernel: exponentials as they are, the sum times the reciprocal of their total. -/
def headK (s v : Fin 128 → EReal) : EReal := (∑ j, Ideal.exp (s j) * v j) * Ideal.div 1 (∑ j, Ideal.exp (s j))

/-- The reference: scores less their maximum, the sum over the total. -/
def headR (s v : Fin 128 → EReal) : EReal :=
  Ideal.div (∑ j, v j * Ideal.exp (s j - Finset.univ.fold max ⊥ s)) (∑ j, Ideal.exp (s j - Finset.univ.fold max ⊥ s))

/-- A nonnegative real factor comes out of a sum. -/
theorem sum_mul_real {ι : Type} (t : Finset ι) (f : ι → EReal) {c : ℝ} (hc : 0 ≤ c) : ∑ i ∈ t, f i * (c : EReal) = (∑ i ∈ t, f i) * (c : EReal) := by
  classical
  induction t using Finset.induction_on with
  | empty => simp
  | insert a t ha ih =>
    rw [Finset.sum_insert ha, Finset.sum_insert ha, ih,
      EReal.right_distrib_of_nonneg_of_ne_top (EReal.coe_nonneg.2 hc) (EReal.coe_ne_top c)]

/-- A sum of reals is a real. -/
theorem sum_real {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- Weights scaled by a nonnegative real scale the score. -/
theorem score_scaled (x : Fin 512 → EReal) (w : Fin 512 → Fin 64 → EReal) (k : Fin 64 → EReal) {c : ℝ} (hc : 0 ≤ c) :
    score x (fun e d => w e d * (c : EReal)) k = score x w k * (c : EReal) := by
  unfold score
  rw [← sum_mul_real _ _ hc]
  refine Finset.sum_congr rfl fun d _ => ?_
  have h : ∑ e, x e * (w e d * (c : EReal)) = (∑ e, x e * w e d) * (c : EReal) := by
    rw [← sum_mul_real _ _ hc]
    exact Finset.sum_congr rfl fun e _ => (mul_assoc _ _ _).symm
  rw [h, mul_right_comm]

/-- The score of reals is a real. -/
theorem score_real (x : Fin 512 → ℝ) (w : Fin 512 → Fin 64 → ℝ) (k : Fin 64 → ℝ) :
    score (fun e => (x e : EReal)) (fun e d => (w e d : EReal)) (fun d => (k d : EReal)) = ((∑ d, (∑ e, x e * w e d) * k d : ℝ) : EReal) := by
  unfold score
  simp only [← EReal.coe_mul, sum_real]

/-- One of finitely many reals is their maximum. -/
theorem max_real (r : Fin 128 → ℝ) : ∃ i, Finset.univ.fold max ⊥ (fun j => (r j : EReal)) = (r i : EReal) := by
  obtain ⟨i, -, hi⟩ := Finset.exists_max_image Finset.univ r ⟨0, Finset.mem_univ 0⟩
  refine ⟨i, le_antisymm ?_ ?_⟩
  · exact (Finset.fold_max_le _).2 ⟨bot_le, fun j hj => EReal.coe_le_coe_iff.2 (hi j hj)⟩
  · exact (Finset.le_fold_max _).2 (Or.inr ⟨i, Finset.mem_univ i, le_rfl⟩)

theorem one_div_real {y : ℝ} (hy : y ≠ 0) : Ideal.div 1 (y : EReal) = ((y⁻¹ : ℝ) : EReal) := by
  unfold Ideal.div
  rw [if_neg (fun h => hy (EReal.coe_eq_zero.1 h)), one_mul, EReal.coe_inv]

/-- At real scores the two agree, whatever the values: what the maximum takes from the scores is one positive factor of
    both sums. -/
theorem head_eq (r : Fin 128 → ℝ) (v : Fin 128 → EReal) : headK (fun j => (r j : EReal)) v = headR (fun j => (r j : EReal)) v := by
  obtain ⟨i, hi⟩ := max_real r
  unfold headK headR
  rw [hi]
  have he : ∀ j, Ideal.exp ((r j : EReal) - (r i : EReal)) = ((Real.exp (r j) * Real.exp (-r i) : ℝ) : EReal) := fun j => by
    rw [← EReal.coe_sub, Ideal.exp_coe, sub_eq_add_neg, Real.exp_add]
  have hc : 0 < Real.exp (-r i) := Real.exp_pos _
  have hl : 0 < ∑ j, Real.exp (r j) := Finset.sum_pos (fun j _ => Real.exp_pos _) ⟨0, Finset.mem_univ 0⟩
  simp only [he, Ideal.exp_coe]
  have hv : ∑ j, v j * ((Real.exp (r j) * Real.exp (-r i) : ℝ) : EReal) = (∑ j, (Real.exp (r j) : EReal) * v j) * (Real.exp (-r i) : EReal) := by
    rw [← sum_mul_real _ _ hc.le]
    exact Finset.sum_congr rfl fun j _ => by rw [EReal.coe_mul, mul_left_comm, mul_assoc]
  have hp : 0 < (∑ j, Real.exp (r j)) * Real.exp (-r i) := mul_pos hl hc
  rw [hv, sum_real, sum_real, ← Finset.sum_mul, ← Ideal.mul_one_div (fun h => hp.ne' (EReal.coe_eq_zero.1 h)), one_div_real hl.ne', one_div_real hp.ne',
    mul_assoc, ← EReal.coe_mul, mul_inv, mul_comm (Real.exp (-r i)), mul_assoc, inv_mul_cancel₀ hc.ne', mul_one]

end Cert.Attend

end
-- ==== Proof.ValueKernel.lean ====
/- The partial products of the kernel, element by element, over the extended reals. -/
module

public import proofs.«01_k».proof.Proof.Rounds
public import proofs.«01_k».proof.Proof.Attend
public import Idealize.ShloMosaic.Lib.Pointwise

@[expose] public section

noncomputable section

namespace Cert.KernelIdeal.Ring16

open Cert.KernelIdeal.Gen Cert.Attend
open Idealize.ShloMosaic

/-- A device's partial at one element: over its 512 columns of heads, the head's value times the output weight. -/
def partial1 (x : Fin 512 → EReal) (wq : Vec Ideal S512x512 .bf16) (kk v : Vec Ideal S16x128x64 .bf16) (wo : Vec Ideal S512x512 .bf16)
    (b : Fin 2) (n : Fin 512) : EReal :=
  ∑ t : Fin 512, headK (fun j => score x (fun e d => wq (ix2 e ⟨t / 64 * 64 + d, by omega⟩)) fun d => kk (ix3 ⟨b * 8 + t / 64, by omega⟩ j d))
    (fun j => v (ix3 ⟨b * 8 + t / 64, by omega⟩ j ⟨t % 64, by omega⟩)) * wo (ix2 t n)

theorem headNo (b : Fin 2) (t : Fin 512) (i : Fin 128) (h1 h2) :
    (⟨((b : ℕ) * 8 + (t : ℕ) / 64) / 8 * 128 + i, h1⟩ : Fin 256) = ⟨b * 128 + i, h2⟩ := by
  apply Fin.ext; show _ = _; simp only []; omega

set_option maxRecDepth 16384 in
theorem partF_apply (x : Vec Ideal S2x128x512 .bf16) (wq : Vec Ideal S512x512 .bf16) (kk v : Vec Ideal S16x128x64 .bf16) (wo : Vec Ideal S512x512 .bf16)
    (b : Fin 2) (i : Fin 128) (n : Fin 512) :
    partF x wq kk v wo (ix3 b i n) = partial1 (fun e => x (ix3 b i e)) wq kk v wo b n := by
  unfold partF partial1 headK score
  pointwise [k0_pay6, k0_pay5, k0_pay4, k0_pay3]
  refine Finset.sum_congr rfl fun t _ => ?_
  have h1 : (⟨(((b : ℕ) * 8 + (t : ℕ) / 64) / 8 * 128 + i) / 128, by omega⟩ : Fin 2) = b := by apply Fin.ext; simp only []; omega
  have h2 : ∀ d : Fin 64, (⟨((b : ℕ) * 8 + (t : ℕ) / 64) % 8 * 64 + d, by omega⟩ : Fin 512) = ⟨t / 64 * 64 + d, by omega⟩ := fun d => by
    apply Fin.ext; simp only []; omega
  simp only [h1, h2]

set_option maxRecDepth 16384 in
theorem partB_apply (x : Vec Ideal S1x2x128x512 .bf16) (wq : Vec Ideal S512x512 .bf16) (kk v : Vec Ideal S16x128x64 .bf16) (wo : Vec Ideal S512x512 .bf16)
    (b : Fin 2) (i : Fin 128) (n : Fin 512) :
    partB x wq kk v wo (ix3 b i n) = partial1 (fun e => x (ix4 0 b i e)) wq kk v wo b n := by
  unfold partB partial1 headK score
  pointwise [k0_pay18]
  refine Finset.sum_congr rfl fun t _ => ?_
  have h1 : (⟨(((b : ℕ) * 8 + (t : ℕ) / 64) / 8 * 128 + i) / 128, by omega⟩ : Fin 2) = b := by apply Fin.ext; simp only []; omega
  have h2 : ∀ d : Fin 64, (⟨((b : ℕ) * 8 + (t : ℕ) / 64) % 8 * 64 + d, by omega⟩ : Fin 512) = ⟨t / 64 * 64 + d, by omega⟩ := fun d => by
    apply Fin.ext; simp only []; omega
  simp only [h1, h2]

theorem accB_apply (p : FVec Ideal S2x128x512 .bf16) (a : Vec Ideal S1x2x128x512 .bf16) (b : Fin 2) (i : Fin 128) (n : Fin 512) :
    accB p a (ix4 0 b i n) = a (ix4 0 b i n) + p (ix3 b i n) := by
  unfold accB
  pointwise [k0_pay12]

theorem first_apply (p : FVec Ideal S2x128x512 .bf16) (b : Fin 2) (i : Fin 128) (n : Fin 512) :
    shapeCast S1x2x128x512 p shapeCasts_S2x128x512_S1x2x128x512 (ix4 0 b i n) = p (ix3 b i n) := by
  pointwise

theorem sent_apply (x : Vec Ideal S2x128x512 .bf16) (b : Fin 2) (i : Fin 128) (n : Fin 512) :
    k0_pay2 x (ix4 0 b i n) = x (ix3 b i n) := by
  pointwise [k0_pay2]

theorem final_apply (p : Vec Ideal S2x128x512 .f32) (a : Vec Ideal S1x2x128x512 .bf16) (b : Fin 2) (i : Fin 128) (n : Fin 512) :
    k0_pay1 (k0_pay57 p) a (ix3 b i n) = p (ix3 b i n) + a (ix4 0 b i n) := by
  pointwise [k0_pay1, k0_pay57]

end Cert.KernelIdeal.Ring16

end
-- ==== Proof.RingSum.lean ====
/- What the kernel leaves in its result: the sum, over the devices of the ring, of their partials of this device's rows. -/
module

public import proofs.«01_k».proof.Proof.ValueKernel
public import proofs.«01_k».proof.Proof.Region

@[expose] public section

noncomputable section

namespace Cert.KernelIdeal.Ring16

open Cert.KernelIdeal.Gen Cert.Attend
open Idealize.ShloMosaic

variable (x : Dev nD → Vec Ideal S2x128x512 .bf16) (wq : Dev nD → Vec Ideal S512x512 .bf16) (kk v : Dev nD → Vec Ideal S16x128x64 .bf16)
  (wo : Dev nD → Vec Ideal S512x512 .bf16)

/-- Device `d`'s partial of an element of device `c`'s rows. -/
def share (b : Fin 2) (i : Fin 128) (n : Fin 512) (d c : Dev nD) : EReal :=
  partial1 (fun e => x c (ix3 b i e)) (wq d) (kk d) (v d) (wo d) b n

theorem rowX_apply (n : ℕ) (c : Dev nD) (b : Fin 2) (i : Fin 128) (e : Fin 512) :
    rowX x n c (ix4 0 b i e) = x (rot b n c) (ix3 b i e) :=
  sent_apply (x (rot b n c)) b i e

/-- The running sum after `n + 1` devices. -/
theorem sums_apply (b : Fin 2) (i : Fin 128) (e : Fin 512) (n : ℕ) (c : Dev nD) :
    sums x wq kk v wo n c (ix4 0 b i e) = ∑ k ∈ Finset.range (n + 1), share x wq kk v wo b i e (rot b k c) (rot b (n + 1) c) := by
  induction n generalizing c with
  | zero =>
    rw [Finset.sum_range_one]
    show shapeCast S1x2x128x512 (partB (rowX x 1 c) (wq c) (kk c) (v c) (wo c)) shapeCasts_S2x128x512_S1x2x128x512 (ix4 0 b i e) = _
    rw [first_apply, partB_apply]
    simp only [rowX_apply]
    rfl
  | succ n ih =>
    rw [Finset.sum_range_succ']
    show accB (partB (rowX x (n + 2) c) (wq c) (kk c) (v c) (wo c)) (fun y => sums x wq kk v wo n (from' (y 1) c) y) (ix4 0 b i e) = _
    rw [accB_apply, partB_apply]
    simp only [rowX_apply]
    exact congrArg (· + _) (ih (from' b c))

/-- One way round the ring meets every device once. -/
theorem rot_inj : ∀ (b : Fin 2) (c : Dev nD), Function.Injective fun k : Fin 16 => rot b k.val c := by
  decide

theorem sum_rot (b : Fin 2) (c : Dev nD) (f : Dev nD → EReal) : ∑ k ∈ Finset.range 16, f (rot b k c) = ∑ d, f d := by
  rw [Finset.sum_range]
  exact Fintype.sum_bijective (fun k : Fin 16 => rot b k.val c) ((Fintype.bijective_iff_injective_and_card _).2 ⟨rot_inj b c, rfl⟩) _ _ fun _ => rfl

/-- All the way round. -/
theorem full_turn (b : Fin 2) (c : Dev nD) : rot b 16 c = c := by
  revert b c; decide

variable (m : (ℓ : Loc nD τ sig) → Buf (Elt Ideal) ℓ)

theorem row0_apply (c : Dev nD) (b : Fin 2) (i : Fin 128) (n : Fin 512) :
    rowOf (LFm m true c) 0 (by decide) (ix4 0 b i n) = sums (xOf m) (wqOf m) (kOf m) (vOf m) (woOf m) 14 (from' b c) (ix4 0 b i n) :=
  congrFun (row_L (xOf m) (wqOf m) (kOf m) (vOf m) (woOf m) c 0 (by decide)) (ix4 0 b i n)

theorem round_apply (b : Fin 2) (i : Fin 128) (n : Fin 512) (c : Dev nD) :
    sums x wq kk v wo 14 (from' b c) (ix4 0 b i n) = ∑ k ∈ Finset.range 15, share x wq kk v wo b i n (rot b (k + 1) c) c := by
  have h : rot b 15 (from' b c) = c := full_turn b c
  rw [sums_apply]
  exact Finset.sum_congr rfl fun k _ => congrArg (share x wq kk v wo b i n (rot b (k + 1) c)) h

theorem ends_apply (p : Vec Ideal S2x128x512 .f32) (a : Vec Ideal S1x2x128x512 .bf16) (b : Fin 2) (i : Fin 128) (n : Fin 512) (c : Dev nD)
    (hp : p (ix3 b i n) = share x wq kk v wo b i n c c) (ha : a (ix4 0 b i n) = sums x wq kk v wo 14 (from' b c) (ix4 0 b i n)) :
    k0_pay1 (k0_pay57 p) a (ix3 b i n) = ∑ d, share x wq kk v wo b i n d c := by
  rw [final_apply, hp, ha, round_apply, ← sum_rot b c, Finset.sum_range_succ' _ 15, add_comm]
  rfl

theorem outOf_apply (c : Dev nD) (b : Fin 2) (i : Fin 128) (n : Fin 512) :
    outOf m c (ix3 b i n) = ∑ d, share (xOf m) (wqOf m) (kOf m) (vOf m) (woOf m) b i n d c :=
  ends_apply _ _ _ _ _ _ _ b i n c (partF_apply ..) (row0_apply m c b i n)

end Cert.KernelIdeal.Ring16

end
-- ==== Proof.ValueRef.lean ====
/- The reference's result, element by element, over the extended reals. -/
module

public import proofs.«01_k».proof.Proof.Gen.ReferenceIdeal
public import proofs.«01_k».proof.Proof.Gen.ReferenceIdeal.Run
public import proofs.«01_k».proof.Proof.Attend
public import Idealize.ShloMosaic.Lib.Pointwise

@[expose] public section

noncomputable section

namespace Cert.ReferenceIdeal.Ref

open Cert.ReferenceIdeal Cert.ReferenceIdeal.Gen Cert.Attend
open Idealize.ShloMosaic

variable (x : FVec Ideal S2x2048x512 .f32) (wq : FVec Ideal S512x8192 .f32) (k v : FVec Ideal S2x128x128x64 .f32) (wo : FVec Ideal S8192x512 .f32)

/-- The scaled scores, -/
def scores : FVec Ideal S2x128x2048x128 .f32 :=
  mulf (Host.dotGeneral dot_S2x2048x128x64_S2x128x128x64_S2x128x2048x128_3_3_1_1_02_02 none
    (shapeCast S2x2048x128x64 (Host.dotGeneral dot_S2x2048x512_S512x8192_S2x2048x8192_2_0_01_1_n_n none x wq) shapeCasts_S2x2048x8192_S2x2048x128x64) k)
    (broadcastInDim S2x128x2048x128 ![] bcast_S_S2x128x2048x128 (constant S_ .f32 0x3E000000#32))

variable (s : FVec Ideal S2x128x2048x128 .f32)

/-- their exponentials, each row's less its maximum, -/
def exps : FVec Ideal S2x128x2048x128 .f32 :=
  Host.exp (subf s (broadcastInDim S2x128x2048x128 ![0, 1, 2, 3] bcast_S2x128x2048x1_S2x128x2048x128_0_1_2_3
    (broadcastInDim S2x128x2048x1 ![0, 1, 2] bcast_S2x128x2048_S2x128x2048x1_0_1_2
      (Host.reduce FloatOps.maximumf s (constant S_ .f32 0xFF800000#32) reducesTo_S2x128x2048x128_S2x128x2048_d3 h_S_))))

variable (p : FVec Ideal S2x128x2048x128 .f32)

/-- and the heads' values through the output weights. -/
def out : FVec Ideal S2x2048x512 .f32 :=
  Host.dotGeneral dot_S2x2048x8192_S8192x512_S2x2048x512_2_0_01_1_n_n none
    (shapeCast S2x2048x8192 (Host.divf
      (transpose S2x2048x128x64 [0, 3, 1, 2] (Host.dotGeneral dot_S2x128x128x64_S2x128x2048x128_S2x128x64x2048_1_3_3_2_02_01 none v p) transposes_S2x128x64x2048_S2x2048x128x64_0_3_1_2)
      (broadcastInDim S2x2048x128x64 ![0, 1, 2, 3] bcast_S2x2048x128x1_S2x2048x128x64_0_1_2_3
        (transpose S2x2048x128x1 [0, 2, 1, 3] (broadcastInDim S2x128x2048x1 ![0, 1, 2] bcast_S2x128x2048_S2x128x2048x1_0_1_2
          (Host.reduceAdd p (constant S_ .f32 0x00000000#32) reducesTo_S2x128x2048x128_S2x128x2048_d3 h_S_)) transposes_S2x128x2048x1_S2x2048x128x1_0_2_1_3)))
      shapeCasts_S2x2048x128x64_S2x2048x8192) wo

theorem eighth : Ideal.ofBits .f32 0x3E000000#32 = (((1 : ℝ) / 8 : ℝ) : EReal) := by
  simp [Ideal.ofBits, Ideal.ieee, -EReal.coe_mul]
  norm_num

theorem lowest : Ideal.ofBits .f32 0xFF800000#32 = ⊥ := by
  simp [Ideal.ofBits, Ideal.ieee]

set_option maxRecDepth 16384 in
theorem scores_apply (b : Fin 2) (h : Fin 128) (i : Fin 2048) (j : Fin 128) :
    scores x wq k (ix4 b h i j) = score (fun e => x (ix3 b i e)) (fun e d => wq (ix2 e ⟨h * 64 + d, by omega⟩)) (fun d => k (ix4 b j h d)) * (((1 : ℝ) / 8 : ℝ) : EReal) := by
  unfold scores score
  pointwise
  rw [eighth]

set_option maxRecDepth 16384 in
theorem exps_apply (b : Fin 2) (h : Fin 128) (i : Fin 2048) (j : Fin 128) :
    exps s (ix4 b h i j) = Ideal.exp (s (ix4 b h i j) - Finset.univ.fold max ⊥ fun j => s (ix4 b h i j)) := by
  unfold exps
  pointwise
  rw [lowest]

set_option maxRecDepth 16384 in
theorem out_apply (b : Fin 2) (i : Fin 2048) (n : Fin 512) :
    out v wo p (ix3 b i n) = ∑ t : Fin 8192, Ideal.div (∑ j, v (ix4 b j ⟨t / 64, by omega⟩ ⟨t % 64, by omega⟩) * p (ix4 b ⟨t / 64, by omega⟩ i j))
      (∑ j, p (ix4 b ⟨t / 64, by omega⟩ i j)) * wo (ix2 t n) := by
  unfold out
  pointwise

end Cert.ReferenceIdeal.Ref

end
-- ==== Proof.Agree.lean ====
/- The ring's sum of partials is the reference's result: the two, element by element, over operands given by their elements. -/
module

public import proofs.«01_k».proof.Proof.RingSum
public import proofs.«01_k».proof.Proof.ValueRef

@[expose] public section

noncomputable section

namespace Cert.Agree

open Cert.Attend Cert.KernelIdeal.Ring16
open Idealize.ShloMosaic

/-- The whole arrays' shapes, -/
abbrev SX : Shape := ⟨3, ![2, 2048, 512]⟩
abbrev SW : Shape := ⟨2, ![512, 8192]⟩
abbrev SK : Shape := ⟨4, ![2, 128, 128, 64]⟩
abbrev SO : Shape := ⟨2, ![8192, 512]⟩
/-- and the factor on the scores. -/
abbrev eighth : ℝ := (1 : ℝ) / 8

variable (X : FVec Ideal SX .f32) (W : FVec Ideal SW .f32) (K V : FVec Ideal SK .f32) (O : FVec Ideal SO .f32)

/-- The reference's result. -/
def refOut : FVec Ideal SX .f32 := ReferenceIdeal.Ref.out V O (ReferenceIdeal.Ref.exps (ReferenceIdeal.Ref.scores X W K))

/-- A scaled score of the reference. -/
def scaled (b : Fin 2) (i : Fin 2048) (h j : Fin 128) : EReal :=
  score (fun e => X (ix3 b i e)) (fun e d => W (ix2 e ⟨h * 64 + d, by omega⟩)) (fun d => K (ix4 b j h d)) * (eighth : EReal)

theorem refOut_apply (b : Fin 2) (i : Fin 2048) (n : Fin 512) :
    refOut X W K V O (ix3 b i n) = ∑ t : Fin 8192, headR (fun j => scaled X W K b i ⟨t / 64, by omega⟩ j)
      (fun j => V (ix4 b j ⟨t / 64, by omega⟩ ⟨t % 64, by omega⟩)) * O (ix2 t n) := by
  unfold refOut
  rw [ReferenceIdeal.Ref.out_apply]
  simp only [ReferenceIdeal.Ref.exps_apply, ReferenceIdeal.Ref.scores_apply]
  rfl

/-- The columns, device by device. -/
theorem sum_columns (f : Fin 8192 → EReal) : ∑ t, f t = ∑ d : Fin 16, ∑ t : Fin 512, f ⟨d * 512 + t, by omega⟩ := by
  rw [← Fintype.sum_prod_type']
  refine (Fintype.sum_equiv (finProdFinEquiv : Fin 16 × Fin 512 ≃ Fin (16 * 512)) _ _ fun p => congrArg f (Fin.ext ?_)).symm
  show p.1.val * 512 + p.2.val = p.2.val + 512 * p.1.val
  omega

theorem scaled_real (xr : SX.Idx → ℝ) (wr : SW.Idx → ℝ) (kr : SK.Idx → ℝ) (b : Fin 2) (i : Fin 2048) (h j : Fin 128) :
    ∃ r : ℝ, scaled (fun p => (xr p : EReal)) (fun p => (wr p : EReal)) (fun p => (kr p : EReal)) b i h j = (r : EReal) := by
  unfold scaled
  rw [score_real (fun e => xr (ix3 b i e)) (fun e d => wr (ix2 e ⟨h * 64 + d, by omega⟩)) (fun d => kr (ix4 b j h d))]
  exact ⟨_, (EReal.coe_mul _ _).symm⟩

/-- Where inputs are real, a head is the same both ways. -/
theorem heads_eq (hX : ∀ p, ∃ r : ℝ, X p = (r : EReal)) (hW : ∀ p, ∃ r : ℝ, W p = (r : EReal)) (hK : ∀ p, ∃ r : ℝ, K p = (r : EReal))
    (b : Fin 2) (i : Fin 2048) (h : Fin 128) (v : Fin 128 → EReal) :
    headK (fun j => scaled X W K b i h j) v = headR (fun j => scaled X W K b i h j) v := by
  choose xr hx using hX
  choose wr hw using hW
  choose kr hk using hK
  obtain rfl : X = fun p => (xr p : EReal) := funext hx
  obtain rfl : W = fun p => (wr p : EReal) := funext hw
  obtain rfl : K = fun p => (kr p : EReal) := funext hk
  choose r hr using fun j => scaled_real xr wr kr b i h j
  rw [show (fun j => scaled (fun p => (xr p : EReal)) (fun p => (wr p : EReal)) (fun p => (kr p : EReal)) b i h j) = fun j => (r j : EReal) from funext hr]
  exact head_eq r v

open KernelIdeal (nD S2x128x512 S512x512 S16x128x64)

variable (x : Dev nD → Vec Ideal S2x128x512 .bf16) (wq : Dev nD → Vec Ideal S512x512 .bf16) (kk v : Dev nD → Vec Ideal S16x128x64 .bf16)
  (wo : Dev nD → Vec Ideal S512x512 .bf16)

/-- A device's operands are its parts of the whole arrays. -/
structure Parts : Prop where
  x : ∀ (c : Fin 16) (b : Fin 2) (i : Fin 128) (e : Fin 512), x c (ix3 b i e) = X (ix3 b ⟨c * 128 + i, by omega⟩ e)
  wq : ∀ (c : Fin 16) (e t : Fin 512), wq c (ix2 e t) = W (ix2 e ⟨c * 512 + t, by omega⟩) * (eighth : EReal)
  k : ∀ (c : Fin 16) (g : Fin 16) (j : Fin 128) (d : Fin 64), kk c (ix3 g j d) = K (ix4 ⟨g / 8, by omega⟩ j ⟨8 * c + g % 8, by omega⟩ d)
  v : ∀ (c : Fin 16) (g : Fin 16) (j : Fin 128) (d : Fin 64), v c (ix3 g j d) = V (ix4 ⟨g / 8, by omega⟩ j ⟨8 * c + g % 8, by omega⟩ d)
  wo : ∀ (c : Fin 16) (t n : Fin 512), wo c (ix2 t n) = O (ix2 ⟨c * 512 + t, by omega⟩ n)

theorem agree (hp : Parts X W K V O x wq kk v wo) (hX : ∀ p, ∃ r : ℝ, X p = (r : EReal)) (hW : ∀ p, ∃ r : ℝ, W p = (r : EReal))
    (hK : ∀ p, ∃ r : ℝ, K p = (r : EReal)) (c : Fin 16) (b : Fin 2) (i : Fin 128) (n : Fin 512) :
    ∑ d, share x wq kk v wo b i n d c = refOut X W K V O (ix3 b ⟨c * 128 + i, by omega⟩ n) := by
  rw [refOut_apply, sum_columns]
  refine Finset.sum_congr rfl fun (d : Fin 16) _ => ?_
  unfold share partial1
  refine Finset.sum_congr rfl fun t _ => ?_
  rw [hp.wo, ← heads_eq X W K hX hW hK]
  have h1 : (⟨((b : ℕ) * 8 + (t : ℕ) / 64) / 8, by omega⟩ : Fin 2) = b := Fin.ext (by simp only []; omega)
  have h2 : (⟨8 * (d : ℕ) + ((b : ℕ) * 8 + (t : ℕ) / 64) % 8, by omega⟩ : Fin 128) = ⟨((d : ℕ) * 512 + t) / 64, by omega⟩ := Fin.ext (by simp only []; omega)
  have h3 : (⟨(t : ℕ) % 64, by omega⟩ : Fin 64) = ⟨((d : ℕ) * 512 + t) % 64, by omega⟩ := Fin.ext (by simp only []; omega)
  have h4 : ∀ z : Fin 64, (⟨(d : ℕ) * 512 + ((t : ℕ) / 64 * 64 + z), by omega⟩ : Fin 8192) = ⟨((d : ℕ) * 512 + t) / 64 * 64 + z, by omega⟩ := fun z =>
    Fin.ext (by simp only []; omega)
  simp only [hp.x, hp.wq, hp.k, hp.v, score_scaled _ _ _ (by norm_num [eighth] : 0 ≤ eighth), h1, h2, h3, h4]
  rfl

end Cert.Agree

end
-- ==== Proof.OperandVal.lean ====
/- The kernel's operands, element by element, from the program's arguments. -/
module

public import proofs.«01_k».proof.Proof.Region
public import Idealize.ShloMosaic.Lib.StableHlo.Run
public import Idealize.ShloMosaic.Lib.StableHlo.RunClose
public import Idealize.ShloMosaic.Lib.Pointwise

@[expose] public section

noncomputable section

namespace Cert.KernelIdeal.Ring16

open Cert.KernelIdeal.Gen
open Idealize.ShloMosaic
open Idealize.ShloMosaic.TcCoe
open Idealize.SL.Sem

variable (m : (ℓ : Loc nD τ sig) → Buf (Elt Ideal) ℓ)

theorem eighth : Ideal.ofBits .bf16 0x3E00#16 = (((1 : ℝ) / 8 : ℝ) : EReal) := by
  simp [Ideal.ofBits, Ideal.ieee, -EReal.coe_mul]
  norm_num

/-- The arguments. -/
def arg0 (c : Dev nD) : FVec Ideal S2x128x512 .bf16 := m (c.tc.loc main_arg0)
def arg1 (c : Dev nD) : FVec Ideal S512x512 .bf16 := m (c.tc.loc main_arg1)
def arg2 (c : Dev nD) : FVec Ideal S2x128x128x64 .bf16 := m (c.tc.loc main_arg2)
def arg3 (c : Dev nD) : FVec Ideal S2x128x128x64 .bf16 := m (c.tc.loc main_arg3)
def arg4 (c : Dev nD) : FVec Ideal S512x512 .bf16 := m (c.tc.loc main_arg4)

theorem xOf_eq (c : Dev nD) : xOf m c = arg0 m c := by
  have h : xOf m c = StableHlo.after (hostOps0 c) (V0 m c) main_arg0 := rfl
  rw [h]
  after_results_simp_entrywise
  rfl

theorem woOf_eq (c : Dev nD) : woOf m c = arg4 m c := by
  have h : woOf m c = StableHlo.after (hostOps0 c) (V0 m c) main_arg4 := rfl
  rw [h]
  after_results_simp_entrywise
  rfl

theorem wqOf_apply (c : Dev nD) (e t : Fin 512) : wqOf m c (ix2 e t) = arg1 m c (ix2 e t) * (((1 : ℝ) / 8 : ℝ) : EReal) := by
  have h : wqOf m c = StableHlo.after (hostOps0 c) (V0 m c) main_v20 := rfl
  rw [h]
  after_results_simp_entrywise
  pointwise
  rw [eighth]
  rfl

theorem start_eq (c : Dev nD) (k : Fin 4) :
    Host.clampedStart S2x128x128x64 S2x128x8x64 rfl ![0, 0, 8 * (c.val : ℤ), 0] k = ![0, 0, 8 * c.val, 0] k := by
  fin_cases k <;> fin_cases c <;> rfl

/-- A device's slice of the keys or the values: eight heads of both batches, the two laid end to end. -/
theorem slice_apply (X : FVec Ideal S2x128x128x64 .bf16) (off : Fin 4 → ℤ) (c : Dev nD) (hoff : ∀ k, off k = ![0, 0, 8 * (c.val : ℤ), 0] k)
    (g : Fin 16) (j : Fin 128) (d : Fin 64) :
    shapeCast S16x128x64 (transpose S2x8x128x64 [0, 2, 1, 3]
      (Host.dynamicSlice S2x128x8x64 X off sliceFits_S2x128x128x64_S2x128x8x64)
      transposes_S2x128x8x64_S2x8x128x64_0_2_1_3) shapeCasts_S2x8x128x64_S16x128x64 (ix3 g j d)
      = X (ix4 ⟨g / 8, by omega⟩ j ⟨8 * c + g % 8, by have : c.val < 16 := c.isLt; omega⟩ d) := by
  obtain rfl : off = _ := funext hoff
  pointwise
  simp only [start_eq]
  refine congrArg X ?_
  congr 1 <;> first | rfl | exact Fin.ext (Nat.zero_add _)

theorem kOf_apply (c : Dev nD) (g : Fin 16) (j : Fin 128) (d : Fin 64) :
    kOf m c (ix3 g j d) = arg2 m c (ix4 ⟨g / 8, by omega⟩ j ⟨8 * c + g % 8, by have : c.val < 16 := c.isLt; omega⟩ d) := by
  have h : kOf m c = StableHlo.after (hostOps0 c) (V0 m c) main_v11 := rfl
  rw [h]
  after_results_simp_entrywise
  exact slice_apply (arg2 m c) _ c (fun k => by fin_cases k <;> fin_cases c <;> rfl) g j d

theorem vOf_apply (c : Dev nD) (g : Fin 16) (j : Fin 128) (d : Fin 64) :
    vOf m c (ix3 g j d) = arg3 m c (ix4 ⟨g / 8, by omega⟩ j ⟨8 * c + g % 8, by have : c.val < 16 := c.isLt; omega⟩ d) := by
  have h : vOf m c = StableHlo.after (hostOps0 c) (V0 m c) main_v18 := rfl
  rw [h]
  after_results_simp_entrywise
  exact slice_apply (arg3 m c) _ c (fun k => by fin_cases k <;> fin_cases c <;> rfl) g j d

end Cert.KernelIdeal.Ring16

end
-- ==== Proof.Finite.lean ====
/- What the precondition says of the three inputs it reads: every element is a real. -/
module

public import proofs.«01_k».proof.Proof.Gen.Pre_finite_KernelIdeal
public import proofs.«01_k».proof.Proof.Gen.Pre_finite_ReferenceIdeal
public import Idealize.ShloMosaic.PureOps.Ideal.Laws
public import Idealize.ShloMosaic.Lib.ReduceAll

@[expose] public section

noncomputable section

namespace Cert.Pre_finite_KernelIdeal

open Idealize.ShloMosaic Cert.Pre_finite_KernelIdeal.Gen

theorem highest : Ideal.ofBits .f32 0x7F800000#32 = ⊤ := by
  simp [Ideal.ofBits, Ideal.ieee]

theorem real_of_lt {a : EReal} (h : max a (-a) < ⊤) : ∃ r : ℝ, a = r := by
  induction a using EReal.rec with
  | bot => simp at h
  | coe r => exact ⟨r, rfl⟩
  | top => simp at h

/-- All of an array's magnitudes below infinity: all of it real. -/
theorem real_of_all {s : Shape} {axes : List (Fin s.rank)} (x : FVec Ideal s .bf16) (hb : S_.BroadcastsInDim s (![] : Fin 0 → Fin s.rank))
    (hr : s.ReducesTo axes S_) (hw : FTy.bits .bf16 < FTy.bits .f32) (hu : 0 < S_.numel) (j : S_.Idx)
    (h : Host.reduce IntOp.andi (cmpf .olt (Host.absf (extf .f32 x hw)) (broadcastInDim s ![] hb (constant (F := Ideal) S_ .f32 0x7F800000#32)))
      (constantI S_ 1 1#1) hr hu j = 1#1) (i : s.Idx) : ∃ r : ℝ, x i = (r : EReal) := by
  have : Subsingleton S_.Idx := ⟨fun a b => funext fun d => d.elim0⟩
  have e := Host.reduce_andi_all _ _ hr hu j h i
  have e' : BitVec.ofBool (decide (max (x i : EReal) (-(x i : EReal)) < Ideal.ofBits .f32 0x7F800000#32)) = 1#1 := e
  rw [highest] at e'
  refine real_of_lt ?_
  by_contra hn
  rw [decide_eq_false hn] at e'
  exact absurd e' (by decide)

theorem reals (x : FVec Ideal S2x128x512 .bf16) (wq : FVec Ideal S512x512 .bf16) (k v : FVec Ideal S2x128x128x64 .bf16) (wo : FVec Ideal S512x512 .bf16)
    (h : fn (F := Ideal) x wq k v wo = fun _ => 1#1) :
    (∀ i, ∃ r : ℝ, x i = (r : EReal)) ∧ (∀ i, ∃ r : ℝ, wq i = (r : EReal)) ∧ ∀ i, ∃ r : ℝ, k i = (r : EReal) := by
  have h0 := congrFun h fun d => d.elim0
  obtain ⟨h12, h3⟩ := IntOp.andi_eq_one.1 h0
  obtain ⟨h1, h2⟩ := IntOp.andi_eq_one.1 h12
  exact ⟨real_of_all x _ _ _ _ _ h1, real_of_all wq _ _ _ _ _ h2, real_of_all k _ _ _ _ _ h3⟩

end Cert.Pre_finite_KernelIdeal

end
-- ==== Proof.Value.lean ====
/- The value claim: from finite queries, query weights and keys, every device ends with its rows of the reference's result. -/
module

public import proofs.«01_k».proof.Proof.Frames
public import proofs.«01_k».proof.Proof.Agree
public import proofs.«01_k».proof.Proof.OperandVal
public import proofs.«01_k».proof.Proof.Finite

@[expose] public section

noncomputable section

namespace Cert.Proof

open Idealize.ShloMosaic Idealize.SL.Sem Cert.Agree
open Cert.KernelIdeal.Ring16 (arg0 arg1 arg2 arg3 arg4 xOf wqOf kOf vOf woOf outOf)

section Blocks

variable {α : Type}

/-- A device's block of rows, -/
abbrev rowsOf (c : Fin 16) (X : SX.Idx → α) : Cert.KernelIdeal.S2x128x512.Idx → α := Layout.block ⟨3, ![2, 128, 512]⟩ ⟨3, ![2, 2048, 512]⟩ 1 16 c X
/-- of the query weights' columns -/
abbrev colsOf (c : Fin 16) (W : SW.Idx → α) : Cert.KernelIdeal.S512x512.Idx → α := Layout.block ⟨2, ![512, 512]⟩ ⟨2, ![512, 8192]⟩ 1 16 c W
/-- and of the output weights' rows; -/
abbrev outsOf (c : Fin 16) (O : SO.Idx → α) : Cert.KernelIdeal.S512x512.Idx → α := Layout.block ⟨2, ![512, 512]⟩ ⟨2, ![8192, 512]⟩ 0 16 c O

/-- their elements. -/
theorem block_rows (X : SX.Idx → α) (c : Fin 16) (b : Fin 2) (i : Fin 128) (e : Fin 512) :
    rowsOf c X (ix3 b i e) = X (ix3 b ⟨c * 128 + i, by omega⟩ e) :=
  congrArg X (funext fun a => by fin_cases a <;> rfl)

theorem block_cols (W : SW.Idx → α) (c : Fin 16) (e t : Fin 512) :
    colsOf c W (ix2 e t) = W (ix2 e ⟨c * 512 + t, by omega⟩) :=
  congrArg W (funext fun a => by fin_cases a <;> rfl)

theorem block_outs (O : SO.Idx → α) (c : Fin 16) (t n : Fin 512) :
    outsOf c O (ix2 t n) = O (ix2 ⟨c * 512 + t, by omega⟩ n) :=
  congrArg O (funext fun a => by fin_cases a <;> rfl)

end Blocks

variable (m : (ℓ : Loc Cert.KernelIdeal.nD Cert.KernelIdeal.τ Cert.KernelIdeal.sig) → Buf (Elt Ideal) ℓ)
variable (X : FVec Ideal SX .f32) (W : FVec Ideal SW .f32) (K V : FVec Ideal SK .f32) (O : FVec Ideal SO .f32)

/-- Every device's arguments are its blocks of the whole arrays. -/
structure Cut : Prop where
  x : ∀ c : Fin 16, arg0 m c = rowsOf c X
  w : ∀ c : Fin 16, arg1 m c = colsOf c W
  k : ∀ c : Fin 16, arg2 m c = K
  v : ∀ c : Fin 16, arg3 m c = V
  o : ∀ c : Fin 16, arg4 m c = outsOf c O

variable {m X W K V O}

theorem Cut.parts (h : Cut m X W K V O) : Parts X W K V O (xOf m) (wqOf m) (kOf m) (vOf m) (woOf m) where
  x c b i e := by rw [KernelIdeal.Ring16.xOf_eq, h.x c]; exact block_rows X c b i e
  wq c e t := by rw [KernelIdeal.Ring16.wqOf_apply, h.w c]; exact congrArg (· * _) (block_cols W c e t)
  k c g j d := by rw [KernelIdeal.Ring16.kOf_apply, h.k c]
  v c g j d := by rw [KernelIdeal.Ring16.vOf_apply, h.v c]
  wo c t n := by rw [KernelIdeal.Ring16.woOf_eq, h.o c]; exact block_outs O c t n

/-- What holds of every block's elements holds of the whole array's. -/
theorem whole_x (h : ∀ (c : Fin 16) p, ∃ r : ℝ, rowsOf c X p = (r : EReal)) (p : SX.Idx) :
    ∃ r : ℝ, X p = (r : EReal) := by
  idx_vars p
  obtain ⟨r, hr⟩ := h ⟨p1 / 128, by omega⟩ (ix3 p0 ⟨p1 % 128, by omega⟩ p2)
  refine ⟨r, Eq.trans (congrArg X ?_) ((block_rows X _ p0 _ p2).symm.trans hr)⟩
  exact congrArg (fun q => ix3 p0 q p2) (Fin.ext (by simp only []; omega))

theorem whole_w (h : ∀ (c : Fin 16) p, ∃ r : ℝ, colsOf c W p = (r : EReal)) (p : SW.Idx) :
    ∃ r : ℝ, W p = (r : EReal) := by
  idx_vars p
  obtain ⟨r, hr⟩ := h ⟨p1 / 512, by omega⟩ (ix2 p0 ⟨p1 % 512, by omega⟩)
  refine ⟨r, Eq.trans (congrArg W ?_) ((block_cols W _ p0 _).symm.trans hr)⟩
  exact congrArg (fun q => ix2 p0 q) (Fin.ext (by simp only []; omega))

/-- A device's result is its rows of the reference's. -/
theorem Cut.out (h : Cut m X W K V O) (hm : Cert.Pre_KernelIdeal_finite_KernelIdeal m) (c : Fin 16) :
    outOf m c = rowsOf c (refOut X W K V O) := by
  have hr := fun c => Cert.Pre_finite_KernelIdeal.reals (arg0 m c) (arg1 m c) (arg2 m c) (arg3 m c) (arg4 m c) (hm c)
  funext p
  idx_vars p
  rw [KernelIdeal.Ring16.outOf_apply]
  refine (agree X W K V O _ _ _ _ _ h.parts (whole_x fun c => ?_) (whole_w fun c => ?_) ?_ c p0 p1 p2).trans (block_rows _ c p0 p1 p2).symm
  · exact h.x c ▸ (hr c).1
  · exact h.w c ▸ (hr c).2.1
  · exact h.k 0 ▸ (hr 0).2.2

/-- The reference's run, its result named. -/
theorem reference_run (m' : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g⟩ fun r =>
      r.2.mem (((0 : Dev Cert.ReferenceIdeal.nD).tc : Thread Cert.ReferenceIdeal.nD Cert.ReferenceIdeal.τ).loc Cert.ReferenceIdeal.main_v23)
        = refOut (m' (((0 : Dev Cert.ReferenceIdeal.nD).tc : Thread _ _).loc Cert.ReferenceIdeal.main_arg0))
            (m' (((0 : Dev Cert.ReferenceIdeal.nD).tc : Thread _ _).loc Cert.ReferenceIdeal.main_arg1))
            (m' (((0 : Dev Cert.ReferenceIdeal.nD).tc : Thread _ _).loc Cert.ReferenceIdeal.main_arg2))
            (m' (((0 : Dev Cert.ReferenceIdeal.nD).tc : Thread _ _).loc Cert.ReferenceIdeal.main_arg3))
            (m' (((0 : Dev Cert.ReferenceIdeal.nD).tc : Thread _ _).loc Cert.ReferenceIdeal.main_arg4))
      ∧ r.2.mem (((0 : Dev Cert.ReferenceIdeal.nD).tc : Thread _ _).loc Cert.ReferenceIdeal.main_arg0) = m' (((0 : Dev Cert.ReferenceIdeal.nD).tc : Thread _ _).loc Cert.ReferenceIdeal.main_arg0)
      ∧ r.2.mem (((0 : Dev Cert.ReferenceIdeal.nD).tc : Thread _ _).loc Cert.ReferenceIdeal.main_arg1) = m' (((0 : Dev Cert.ReferenceIdeal.nD).tc : Thread _ _).loc Cert.ReferenceIdeal.main_arg1)
      ∧ r.2.mem (((0 : Dev Cert.ReferenceIdeal.nD).tc : Thread _ _).loc Cert.ReferenceIdeal.main_arg2) = m' (((0 : Dev Cert.ReferenceIdeal.nD).tc : Thread _ _).loc Cert.ReferenceIdeal.main_arg2)
      ∧ r.2.mem (((0 : Dev Cert.ReferenceIdeal.nD).tc : Thread _ _).loc Cert.ReferenceIdeal.main_arg3) = m' (((0 : Dev Cert.ReferenceIdeal.nD).tc : Thread _ _).loc Cert.ReferenceIdeal.main_arg3)
      ∧ r.2.mem (((0 : Dev Cert.ReferenceIdeal.nD).tc : Thread _ _).loc Cert.ReferenceIdeal.main_arg4) = m' (((0 : Dev Cert.ReferenceIdeal.nD).tc : Thread _ _).loc Cert.ReferenceIdeal.main_arg4) :=
  (θ_run Cert.ReferenceIdeal.defs _ _).mono (fun _ h => h 0) (Cert.ReferenceIdeal.Value.run (F := Ideal) m' g)

theorem algebraic : Cert.algebraic_KernelIdeal_ReferenceIdeal_pre_finite_KernelIdeal := by
  intro m g m' g' hm hc
  have hcut : Cut m _ _ _ _ _ := ⟨fun c => (hc c).1, fun c => (hc c).2.1, fun c => (hc c).2.2.1, fun c => (hc c).2.2.2.1, fun c => (hc c).2.2.2.2⟩
  refine ⟨_, (θ_run Cert.KernelIdeal.defs _ _).mono (fun r h c => ⟨?_, args_kept (h.1 c)⟩) (Cert.KernelIdeal.Ring16.run_main (F := Ideal) m g), reference_run m' g'⟩
  exact (h.1 c).2.2.2.2.2.trans (hcut.out hm c)

end Cert.Proof

end
-- ==== Proof.lean ====
module

public import proofs.«01_k».proof.Proof.Gen.Pre_finite_KernelIdeal
public import proofs.«01_k».proof.Proof.Gen.Pre_finite_ReferenceIdeal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The frames from memories of which the precondition holds are the frames from any. -/
theorem frame_kernelIdeal_pre : Cert.quiescent_KernelIdeal_pre_finite_KernelIdeal := fun m g _ => frame_kernelIdeal m g trivial

theorem frame_reference_pre : Cert.quiescent_ReferenceIdeal_pre_finite_ReferenceIdeal := fun m g _ => frame_reference m g trivial

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_kernelIdeal, frame_kernelIdeal_pre, frame_reference, frame_reference_pre, trivial,
    algebraic⟩

end Cert.Proof

end
